-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x512x1024 : Shape := ⟨3, ![3, 512, 1024]⟩
abbrev S3x1024x512 : Shape := ⟨3, ![3, 1024, 512]⟩
abbrev S3x64x512 : Shape := ⟨3, ![3, 64, 512]⟩
abbrev S3x7x8x512 : Shape := ⟨4, ![3, 7, 8, 512]⟩
abbrev S3x2 : Shape := ⟨2, ![3, 2]⟩
abbrev S3x7 : Shape := ⟨2, ![3, 7]⟩
abbrev S1x1 : Shape := ⟨2, ![1, 1]⟩
abbrev S_ : Shape := ⟨0, ![]⟩
abbrev S1x512x1024 : Shape := ⟨3, ![1, 512, 1024]⟩
abbrev S1x1024x512 : Shape := ⟨3, ![1, 1024, 512]⟩
abbrev S64x1024 : Shape := ⟨2, ![64, 1024]⟩
abbrev S1x64x512 : Shape := ⟨3, ![1, 64, 512]⟩
abbrev S1x1x8x512 : Shape := ⟨4, ![1, 1, 8, 512]⟩
abbrev S8x512 : Shape := ⟨2, ![8, 512]⟩
abbrev S1x8x512 : Shape := ⟨3, ![1, 8, 512]⟩

abbrev nBuf : Space → Nat
  | .hbm => 8
  | .vmem => 7
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S3x512x1024, .f32⟩
  | .local _ .vmem, ⟨3, _⟩ => ⟨S3x1024x512, .f32⟩
  | .local _ .vmem, ⟨4, _⟩ => ⟨S3x64x512, .f32⟩
  | .local _ .vmem, ⟨5, _⟩ => ⟨S3x7x8x512, .f32⟩
  | .local _ .vmem, ⟨6, _⟩ => ⟨S3x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v28 : BitVec 32 := Scalar.addi v2 c1_i32_28
  let c8_i32_29 : BitVec 32 := 8#32
  let c0_i32_30 : BitVec 32 := 0#32
  let v29 : BitVec 1 := Scalar.cmpi .eq c8_i32_29 c0_i32_30
  let c1_i32_31 : BitVec 32 := 1#32
  let v30 : BitVec 32 := Scalar.select v29 c1_i32_31 c8_i32_29
  let v31 : BitVec 32 := Scalar.remsi v28 v30
  let c0_i32_33 : BitVec 32 := 0#32
  let v33 : BitVec 1 := Scalar.cmpi .slt v31 c0_i32_33
  let c0_i32_34 : BitVec 32 := 0#32
  let v34 : BitVec 1 := Scalar.cmpi .slt v30 c0_i32_34
  let v35 : BitVec 1 := Scalar.xori v33 v34
  let c0_i32_32 : BitVec 32 := 0#32
  let v32 : BitVec 1 := Scalar.cmpi .ne v31 c0_i32_32
  let v36 : BitVec 1 := Scalar.andi v35 v32
  let v37 : BitVec 32 := Scalar.addi v31 v30
  let v38 : BitVec 32 := Scalar.select v36 v37 v31
  let c1_i32_36 : BitVec 32 := 1#32
  let v39 : BitVec 32 := Scalar.muli v38 c1_i32_36
  let v40 : BitVec 32 := Scalar.addi c0_i32_37 v39
  v40.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v41 : BitVec 32 := Scalar.addi v2 c2_i32_38
  let c8_i32_39 : BitVec 32 := 8#32
  let c0_i32_40 : BitVec 32 := 0#32
  let v42 : BitVec 1 := Scalar.cmpi .eq c8_i32_39 c0_i32_40
  let c1_i32_41 : BitVec 32 := 1#32
  let v43 : BitVec 32 := Scalar.select v42 c1_i32_41 c8_i32_39
  let v44 : BitVec 32 := Scalar.remsi v41 v43
  let c0_i32_43 : BitVec 32 := 0#32
  let v46 : BitVec 1 := Scalar.cmpi .slt v44 c0_i32_43
  let c0_i32_44 : BitVec 32 := 0#32
  let v47 : BitVec 1 := Scalar.cmpi .slt v43 c0_i32_44
  let v48 : BitVec 1 := Scalar.xori v46 v47
  let c0_i32_42 : BitVec 32 := 0#32
  let v45 : BitVec 1 := Scalar.cmpi .ne v44 c0_i32_42
  let v49 : BitVec 1 := Scalar.andi v48 v45
  let v50 : BitVec 32 := Scalar.addi v44 v43
  let v51 : BitVec 32 := Scalar.select v49 v50 v44
  let c1_i32_46 : BitVec 32 := 1#32
  let v52 : BitVec 32 := Scalar.muli v51 c1_i32_46
  let v53 : BitVec 32 := Scalar.addi c0_i32_47 v52
  v53.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v54 : BitVec 32 := Scalar.addi v2 c3_i32
  let c8_i32_48 : BitVec 32 := 8#32
  let c0_i32_49 : BitVec 32 := 0#32
  let v55 : BitVec 1 := Scalar.cmpi .eq c8_i32_48 c0_i32_49
  let c1_i32_50 : BitVec 32 := 1#32
  let v56 : BitVec 32 := Scalar.select v55 c1_i32_50 c8_i32_48
  let v57 : BitVec 32 := Scalar.remsi v54 v56
  let c0_i32_52 : BitVec 32 := 0#32
  let v59 : BitVec 1 := Scalar.cmpi .slt v57 c0_i32_52
  let c0_i32_53 : BitVec 32 := 0#32
  let v60 : BitVec 1 := Scalar.cmpi .slt v56 c0_i32_53
  let v61 : BitVec 1 := Scalar.xori v59 v60
  let c0_i32_51 : BitVec 32 := 0#32
  let v58 : BitVec 1 := Scalar.cmpi .ne v57 c0_i32_51
  let v62 : BitVec 1 := Scalar.andi v61 v58
  let v63 : BitVec 32 := Scalar.addi v57 v56
  let v64 : BitVec 32 := Scalar.select v62 v63 v57
  let c1_i32_55 : BitVec 32 := 1#32
  let v65 : BitVec 32 := Scalar.muli v64 c1_i32_55
  let v66 : BitVec 32 := Scalar.addi c0_i32_56 v65
  v66.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v67 : BitVec 32 := Scalar.addi v2 c4_i32
  let c8_i32_57 : BitVec 32 := 8#32
  let c0_i32_58 : BitVec 32 := 0#32
  let v68 : BitVec 1 := Scalar.cmpi .eq c8_i32_57 c0_i32_58
  let c1_i32_59 : BitVec 32 := 1#32
  let v69 : BitVec 32 := Scalar.select v68 c1_i32_59 c8_i32_57
  let v70 : BitVec 32 := Scalar.remsi v67 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c1_i32_64 : BitVec 32 := 1#32
  let v78 : BitVec 32 := Scalar.muli v77 c1_i32_64
  let v79 : BitVec 32 := Scalar.addi c0_i32_65 v78
  v79.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v80 : BitVec 32 := Scalar.addi v2 c5_i32
  let c8_i32_66 : BitVec 32 := 8#32
  let c0_i32_67 : BitVec 32 := 0#32
  let v81 : BitVec 1 := Scalar.cmpi .eq c8_i32_66 c0_i32_67
  let c1_i32_68 : BitVec 32 := 1#32
  let v82 : BitVec 32 := Scalar.select v81 c1_i32_68 c8_i32_66
  let v83 : BitVec 32 := Scalar.remsi v80 v82
  let c0_i32_70 : BitVec 32 := 0#32
  let v85 : BitVec 1 := Scalar.cmpi .slt v83 c0_i32_70
  let c0_i32_71 : BitVec 32 := 0#32
  let v86 : BitVec 1 := Scalar.cmpi .slt v82 c0_i32_71
  let v87 : BitVec 1 := Scalar.xori v85 v86
  let c0_i32_69 : BitVec 32 := 0#32
  let v84 : BitVec 1 := Scalar.cmpi .ne v83 c0_i32_69
  let v88 : BitVec 1 := Scalar.andi v87 v84
  let v89 : BitVec 32 := Scalar.addi v83 v82
  let v90 : BitVec 32 := Scalar.select v88 v89 v83
  let c1_i32_73 : BitVec 32 := 1#32
  let v91 : BitVec 32 := Scalar.muli v90 c1_i32_73
  let v92 : BitVec 32 := Scalar.addi c0_i32_74 v91
  v92.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v93 : BitVec 32 := Scalar.addi v2 c6_i32
  let c8_i32_75 : BitVec 32 := 8#32
  let c0_i32_76 : BitVec 32 := 0#32
  let v94 : BitVec 1 := Scalar.cmpi .eq c8_i32_75 c0_i32_76
  let c1_i32_77 : BitVec 32 := 1#32
  let v95 : BitVec 32 := Scalar.select v94 c1_i32_77 c8_i32_75
  let v96 : BitVec 32 := Scalar.remsi v93 v95
  let c0_i32_79 : BitVec 32 := 0#32
  let v98 : BitVec 1 := Scalar.cmpi .slt v96 c0_i32_79
  let c0_i32_80 : BitVec 32 := 0#32
  let v99 : BitVec 1 := Scalar.cmpi .slt v95 c0_i32_80
  let v100 : BitVec 1 := Scalar.xori v98 v99
  let c0_i32_78 : BitVec 32 := 0#32
  let v97 : BitVec 1 := Scalar.cmpi .ne v96 c0_i32_78
  let v101 : BitVec 1 := Scalar.andi v100 v97
  let v102 : BitVec 32 := Scalar.addi v96 v95
  let v103 : BitVec 32 := Scalar.select v101 v102 v96
  let c1_i32_82 : BitVec 32 := 1#32
  let v104 : BitVec 32 := Scalar.muli v103 c1_i32_82
  let v105 : BitVec 32 := Scalar.addi c0_i32_83 v104
  v105.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v106 : BitVec 32 := Scalar.addi v2 c7_i32
  let c8_i32_84 : BitVec 32 := 8#32
  let c0_i32_85 : BitVec 32 := 0#32
  let v107 : BitVec 1 := Scalar.cmpi .eq c8_i32_84 c0_i32_85
  let c1_i32_86 : BitVec 32 := 1#32
  let v108 : BitVec 32 := Scalar.select v107 c1_i32_86 c8_i32_84
  let v109 : BitVec 32 := Scalar.remsi v106 v108
  let c0_i32_88 : BitVec 32 := 0#32
  let v111 : BitVec 1 := Scalar.cmpi .slt v109 c0_i32_88
  let c0_i32_89 : BitVec 32 := 0#32
  let v112 : BitVec 1 := Scalar.cmpi .slt v108 c0_i32_89
  let v113 : BitVec 1 := Scalar.xori v111 v112
  let c0_i32_87 : BitVec 32 := 0#32
  let v110 : BitVec 1 := Scalar.cmpi .ne v109 c0_i32_87
  let v114 : BitVec 1 := Scalar.andi v113 v110
  let v115 : BitVec 32 := Scalar.addi v109 v108
  let v116 : BitVec 32 := Scalar.select v114 v115 v109
  let c1_i32_91 : BitVec 32 := 1#32
  let v117 : BitVec 32 := Scalar.muli v116 c1_i32_91
  let v118 : BitVec 32 := Scalar.addi c0_i32_92 v117
  v118.toNat
def k0_off1 (d0 : Dev nD) (c1_i32_116 : BitVec 32) : Fin 3 → Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v140 : BitVec 32 := Scalar.addi v2 c1_i32_116
  let c8_i32_117 : BitVec 32 := 8#32
  let c0_i32_118 : BitVec 32 := 0#32
  let v141 : BitVec 1 := Scalar.cmpi .eq c8_i32_117 c0_i32_118
  let c1_i32_119 : BitVec 32 := 1#32
  let v142 : BitVec 32 := Scalar.select v141 c1_i32_119 c8_i32_117
  let v143 : BitVec 32 := Scalar.remsi v140 v142
  let c0_i32_121 : BitVec 32 := 0#32
  let v145 : BitVec 1 := Scalar.cmpi .slt v143 c0_i32_121
  let c0_i32_122 : BitVec 32 := 0#32
  let v146 : BitVec 1 := Scalar.cmpi .slt v142 c0_i32_122
  let v147 : BitVec 1 := Scalar.xori v145 v146
  let c0_i32_120 : BitVec 32 := 0#32
  let v144 : BitVec 1 := Scalar.cmpi .ne v143 c0_i32_120
  let v148 : BitVec 1 := Scalar.andi v147 v144
  let v149 : BitVec 32 := Scalar.addi v143 v142
  let v150 : BitVec 32 := Scalar.select v148 v149 v143
  let c8_i32_123 : BitVec 32 := 8#32
  let v151 : BitVec 32 := Scalar.muli v150 c8_i32_123
  let c0_i32_135 : BitVec 32 := 0#32
  ![0, v151.toNat, 0]
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_116 : BitVec 32 := 1#32
  let v140 : BitVec 32 := Scalar.addi v2 c1_i32_116
  let c8_i32_117 : BitVec 32 := 8#32
  let c0_i32_118 : BitVec 32 := 0#32
  let v141 : BitVec 1 := Scalar.cmpi .eq c8_i32_117 c0_i32_118
  let c1_i32_119 : BitVec 32 := 1#32
  let v142 : BitVec 32 := Scalar.select v141 c1_i32_119 c8_i32_117
  let v143 : BitVec 32 := Scalar.remsi v140 v142
  let c0_i32_121 : BitVec 32 := 0#32
  let v145 : BitVec 1 := Scalar.cmpi .slt v143 c0_i32_121
  let c0_i32_122 : BitVec 32 := 0#32
  let v146 : BitVec 1 := Scalar.cmpi .slt v142 c0_i32_122
  let v147 : BitVec 1 := Scalar.xori v145 v146
  let c0_i32_120 : BitVec 32 := 0#32
  let v144 : BitVec 1 := Scalar.cmpi .ne v143 c0_i32_120
  let v148 : BitVec 1 := Scalar.andi v147 v144
  let v149 : BitVec 32 := Scalar.addi v143 v142
  let v150 : BitVec 32 := Scalar.select v148 v149 v143
  let c1_i32_131 : BitVec 32 := 1#32
  let v152 : BitVec 32 := Scalar.muli v150 c1_i32_131
  let v153 : BitVec 32 := Scalar.addi c0_i32_132 v152
  v153.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_136 : BitVec 32 := 2#32
  let v162 : BitVec 32 := Scalar.addi v2 c2_i32_136
  let c8_i32_137 : BitVec 32 := 8#32
  let c0_i32_138 : BitVec 32 := 0#32
  let v163 : BitVec 1 := Scalar.cmpi .eq c8_i32_137 c0_i32_138
  let c1_i32_139 : BitVec 32 := 1#32
  let v164 : BitVec 32 := Scalar.select v163 c1_i32_139 c8_i32_137
  let v165 : BitVec 32 := Scalar.remsi v162 v164
  let c0_i32_141 : BitVec 32 := 0#32
  let v167 : BitVec 1 := Scalar.cmpi .slt v165 c0_i32_141
  let c0_i32_142 : BitVec 32 := 0#32
  let v168 : BitVec 1 := Scalar.cmpi .slt v164 c0_i32_142
  let v169 : BitVec 1 := Scalar.xori v167 v168
  let c0_i32_140 : BitVec 32 := 0#32
  let v166 : BitVec 1 := Scalar.cmpi .ne v165 c0_i32_140
  let v170 : BitVec 1 := Scalar.andi v169 v166
  let v171 : BitVec 32 := Scalar.addi v165 v164
  let v172 : BitVec 32 := Scalar.select v170 v171 v165
  let c1_i32_151 : BitVec 32 := 1#32
  let v174 : BitVec 32 := Scalar.muli v172 c1_i32_151
  let v175 : BitVec 32 := Scalar.addi c0_i32_152 v174
  v175.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_156 : BitVec 32 := 3#32
  let v184 : BitVec 32 := Scalar.addi v2 c3_i32_156
  let c8_i32_157 : BitVec 32 := 8#32
  let c0_i32_158 : BitVec 32 := 0#32
  let v185 : BitVec 1 := Scalar.cmpi .eq c8_i32_157 c0_i32_158
  let c1_i32_159 : BitVec 32 := 1#32
  let v186 : BitVec 32 := Scalar.select v185 c1_i32_159 c8_i32_157
  let v187 : BitVec 32 := Scalar.remsi v184 v186
  let c0_i32_161 : BitVec 32 := 0#32
  let v189 : BitVec 1 := Scalar.cmpi .slt v187 c0_i32_161
  let c0_i32_162 : BitVec 32 := 0#32
  let v190 : BitVec 1 := Scalar.cmpi .slt v186 c0_i32_162
  let v191 : BitVec 1 := Scalar.xori v189 v190
  let c0_i32_160 : BitVec 32 := 0#32
  let v188 : BitVec 1 := Scalar.cmpi .ne v187 c0_i32_160
  let v192 : BitVec 1 := Scalar.andi v191 v188
  let v193 : BitVec 32 := Scalar.addi v187 v186
  let v194 : BitVec 32 := Scalar.select v192 v193 v187
  let c1_i32_171 : BitVec 32 := 1#32
  let v196 : BitVec 32 := Scalar.muli v194 c1_i32_171
  let v197 : BitVec 32 := Scalar.addi c0_i32_172 v196
  v197.toNat
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_176 : BitVec 32 := 4#32
  let v206 : BitVec 32 := Scalar.addi v2 c4_i32_176
  let c8_i32_177 : BitVec 32 := 8#32
  let c0_i32_178 : BitVec 32 := 0#32
  let v207 : BitVec 1 := Scalar.cmpi .eq c8_i32_177 c0_i32_178
  let c1_i32_179 : BitVec 32 := 1#32
  let v208 : BitVec 32 := Scalar.select v207 c1_i32_179 c8_i32_177
  let v209 : BitVec 32 := Scalar.remsi v206 v208
  let c0_i32_181 : BitVec 32 := 0#32
  let v211 : BitVec 1 := Scalar.cmpi .slt v209 c0_i32_181
  let c0_i32_182 : BitVec 32 := 0#32
  let v212 : BitVec 1 := Scalar.cmpi .slt v208 c0_i32_182
  let v213 : BitVec 1 := Scalar.xori v211 v212
  let c0_i32_180 : BitVec 32 := 0#32
  let v210 : BitVec 1 := Scalar.cmpi .ne v209 c0_i32_180
  let v214 : BitVec 1 := Scalar.andi v213 v210
  let v215 : BitVec 32 := Scalar.addi v209 v208
  let v216 : BitVec 32 := Scalar.select v214 v215 v209
  let c1_i32_191 : BitVec 32 := 1#32
  let v218 : BitVec 32 := Scalar.muli v216 c1_i32_191
  let v219 : BitVec 32 := Scalar.addi c0_i32_192 v218
  v219.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_196 : BitVec 32 := 5#32
  let v228 : BitVec 32 := Scalar.addi v2 c5_i32_196
  let c8_i32_197 : BitVec 32 := 8#32
  let c0_i32_198 : BitVec 32 := 0#32
  let v229 : BitVec 1 := Scalar.cmpi .eq c8_i32_197 c0_i32_198
  let c1_i32_199 : BitVec 32 := 1#32
  let v230 : BitVec 32 := Scalar.select v229 c1_i32_199 c8_i32_197
  let v231 : BitVec 32 := Scalar.remsi v228 v230
  let c0_i32_201 : BitVec 32 := 0#32
  let v233 : BitVec 1 := Scalar.cmpi .slt v231 c0_i32_201
  let c0_i32_202 : BitVec 32 := 0#32
  let v234 : BitVec 1 := Scalar.cmpi .slt v230 c0_i32_202
  let v235 : BitVec 1 := Scalar.xori v233 v234
  let c0_i32_200 : BitVec 32 := 0#32
  let v232 : BitVec 1 := Scalar.cmpi .ne v231 c0_i32_200
  let v236 : BitVec 1 := Scalar.andi v235 v232
  let v237 : BitVec 32 := Scalar.addi v231 v230
  let v238 : BitVec 32 := Scalar.select v236 v237 v231
  let c1_i32_211 : BitVec 32 := 1#32
  let v240 : BitVec 32 := Scalar.muli v238 c1_i32_211
  let v241 : BitVec 32 := Scalar.addi c0_i32_212 v240
  v241.toNat
def k0_dev13 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_216 : BitVec 32 := 6#32
  let v250 : BitVec 32 := Scalar.addi v2 c6_i32_216
  let c8_i32_217 : BitVec 32 := 8#32
  let c0_i32_218 : BitVec 32 := 0#32
  let v251 : BitVec 1 := Scalar.cmpi .eq c8_i32_217 c0_i32_218
  let c1_i32_219 : BitVec 32 := 1#32
  let v252 : BitVec 32 := Scalar.select v251 c1_i32_219 c8_i32_217
  let v253 : BitVec 32 := Scalar.remsi v250 v252
  let c0_i32_221 : BitVec 32 := 0#32
  let v255 : BitVec 1 := Scalar.cmpi .slt v253 c0_i32_221
  let c0_i32_222 : BitVec 32 := 0#32
  let v256 : BitVec 1 := Scalar.cmpi .slt v252 c0_i32_222
  let v257 : BitVec 1 := Scalar.xori v255 v256
  let c0_i32_220 : BitVec 32 := 0#32
  let v254 : BitVec 1 := Scalar.cmpi .ne v253 c0_i32_220
  let v258 : BitVec 1 := Scalar.andi v257 v254
  let v259 : BitVec 32 := Scalar.addi v253 v252
  let v260 : BitVec 32 := Scalar.select v258 v259 v253
  let c1_i32_231 : BitVec 32 := 1#32
  let v262 : BitVec 32 := Scalar.muli v260 c1_i32_231
  let v263 : BitVec 32 := Scalar.addi c0_i32_232 v262
  v263.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_236 : BitVec 32 := 7#32
  let v272 : BitVec 32 := Scalar.addi v2 c7_i32_236
  let c8_i32_237 : BitVec 32 := 8#32
  let c0_i32_238 : BitVec 32 := 0#32
  let v273 : BitVec 1 := Scalar.cmpi .eq c8_i32_237 c0_i32_238
  let c1_i32_239 : BitVec 32 := 1#32
  let v274 : BitVec 32 := Scalar.select v273 c1_i32_239 c8_i32_237
  let v275 : BitVec 32 := Scalar.remsi v272 v274
  let c0_i32_241 : BitVec 32 := 0#32
  let v277 : BitVec 1 := Scalar.cmpi .slt v275 c0_i32_241
  let c0_i32_242 : BitVec 32 := 0#32
  let v278 : BitVec 1 := Scalar.cmpi .slt v274 c0_i32_242
  let v279 : BitVec 1 := Scalar.xori v277 v278
  let c0_i32_240 : BitVec 32 := 0#32
  let v276 : BitVec 1 := Scalar.cmpi .ne v275 c0_i32_240
  let v280 : BitVec 1 := Scalar.andi v279 v276
  let v281 : BitVec 32 := Scalar.addi v275 v274
  let v282 : BitVec 32 := Scalar.select v280 v281 v275
  let c1_i32_251 : BitVec 32 := 1#32
  let v284 : BitVec 32 := Scalar.muli v282 c1_i32_251
  let v285 : BitVec 32 := Scalar.addi c0_i32_252 v284
  v285.toNat
def k0_off2 (d0 : Dev nD) : Fin 3 → Nat :=
  let c0_257 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_256 : BitVec 32 := 8#32
  let v294 : BitVec 32 := Scalar.muli v2 c8_i32_256
  let v295 : Index := Scalar.indexCast v294
  let c0_258 : Index := 0#32
  ![0, v295.toNat, 0]
def k0_off3 (d0 : Dev nD) : Fin 3 → Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_376 : BitVec 32 := 8#32
  let v392 : BitVec 32 := Scalar.muli v2 c8_i32_376
  let c0_i32_385 : BitVec 32 := 0#32
  ![0, v392.toNat, 0]
def k0_dev15 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v380 : BitVec 32 := Scalar.addi v2 c1_i32_368
  let c8_i32_369 : BitVec 32 := 8#32
  let c0_i32_370 : BitVec 32 := 0#32
  let v381 : BitVec 1 := Scalar.cmpi .eq c8_i32_369 c0_i32_370
  let c1_i32_371 : BitVec 32 := 1#32
  let v382 : BitVec 32 := Scalar.select v381 c1_i32_371 c8_i32_369
  let v383 : BitVec 32 := Scalar.remsi v380 v382
  let c0_i32_373 : BitVec 32 := 0#32
  let v385 : BitVec 1 := Scalar.cmpi .slt v383 c0_i32_373
  let c0_i32_374 : BitVec 32 := 0#32
  let v386 : BitVec 1 := Scalar.cmpi .slt v382 c0_i32_374
  let v387 : BitVec 1 := Scalar.xori v385 v386
  let c0_i32_372 : BitVec 32 := 0#32
  let v384 : BitVec 1 := Scalar.cmpi .ne v383 c0_i32_372
  let v388 : BitVec 1 := Scalar.andi v387 v384
  let v389 : BitVec 32 := Scalar.addi v383 v382
  let v390 : BitVec 32 := Scalar.select v388 v389 v383
  let c1_i32_383 : BitVec 32 := 1#32
  let v393 : BitVec 32 := Scalar.muli v390 c1_i32_383
  let v394 : BitVec 32 := Scalar.addi c0_i32_384 v393
  v394.toNat
def k0_dev16 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_387 : BitVec 32 := 2#32
  let v403 : BitVec 32 := Scalar.addi v2 c2_i32_387
  let c8_i32_388 : BitVec 32 := 8#32
  let c0_i32_389 : BitVec 32 := 0#32
  let v404 : BitVec 1 := Scalar.cmpi .eq c8_i32_388 c0_i32_389
  let c1_i32_390 : BitVec 32 := 1#32
  let v405 : BitVec 32 := Scalar.select v404 c1_i32_390 c8_i32_388
  let v406 : BitVec 32 := Scalar.remsi v403 v405
  let c0_i32_392 : BitVec 32 := 0#32
  let v408 : BitVec 1 := Scalar.cmpi .slt v406 c0_i32_392
  let c0_i32_393 : BitVec 32 := 0#32
  let v409 : BitVec 1 := Scalar.cmpi .slt v405 c0_i32_393
  let v410 : BitVec 1 := Scalar.xori v408 v409
  let c0_i32_391 : BitVec 32 := 0#32
  let v407 : BitVec 1 := Scalar.cmpi .ne v406 c0_i32_391
  let v411 : BitVec 1 := Scalar.andi v410 v407
  let v412 : BitVec 32 := Scalar.addi v406 v405
  let v413 : BitVec 32 := Scalar.select v411 v412 v406
  let c1_i32_402 : BitVec 32 := 1#32
  let v416 : BitVec 32 := Scalar.muli v413 c1_i32_402
  let v417 : BitVec 32 := Scalar.addi c0_i32_403 v416
  v417.toNat
def k0_dev17 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_406 : BitVec 32 := 3#32
  let v426 : BitVec 32 := Scalar.addi v2 c3_i32_406
  let c8_i32_407 : BitVec 32 := 8#32
  let c0_i32_408 : BitVec 32 := 0#32
  let v427 : BitVec 1 := Scalar.cmpi .eq c8_i32_407 c0_i32_408
  let c1_i32_409 : BitVec 32 := 1#32
  let v428 : BitVec 32 := Scalar.select v427 c1_i32_409 c8_i32_407
  let v429 : BitVec 32 := Scalar.remsi v426 v428
  let c0_i32_411 : BitVec 32 := 0#32
  let v431 : BitVec 1 := Scalar.cmpi .slt v429 c0_i32_411
  let c0_i32_412 : BitVec 32 := 0#32
  let v432 : BitVec 1 := Scalar.cmpi .slt v428 c0_i32_412
  let v433 : BitVec 1 := Scalar.xori v431 v432
  let c0_i32_410 : BitVec 32 := 0#32
  let v430 : BitVec 1 := Scalar.cmpi .ne v429 c0_i32_410
  let v434 : BitVec 1 := Scalar.andi v433 v430
  let v435 : BitVec 32 := Scalar.addi v429 v428
  let v436 : BitVec 32 := Scalar.select v434 v435 v429
  let c1_i32_421 : BitVec 32 := 1#32
  let v439 : BitVec 32 := Scalar.muli v436 c1_i32_421
  let v440 : BitVec 32 := Scalar.addi c0_i32_422 v439
  v440.toNat
def k0_dev18 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_425 : BitVec 32 := 4#32
  let v449 : BitVec 32 := Scalar.addi v2 c4_i32_425
  let c8_i32_426 : BitVec 32 := 8#32
  let c0_i32_427 : BitVec 32 := 0#32
  let v450 : BitVec 1 := Scalar.cmpi .eq c8_i32_426 c0_i32_427
  let c1_i32_428 : BitVec 32 := 1#32
  let v451 : BitVec 32 := Scalar.select v450 c1_i32_428 c8_i32_426
  let v452 : BitVec 32 := Scalar.remsi v449 v451
  let c0_i32_430 : BitVec 32 := 0#32
  let v454 : BitVec 1 := Scalar.cmpi .slt v452 c0_i32_430
  let c0_i32_431 : BitVec 32 := 0#32
  let v455 : BitVec 1 := Scalar.cmpi .slt v451 c0_i32_431
  let v456 : BitVec 1 := Scalar.xori v454 v455
  let c0_i32_429 : BitVec 32 := 0#32
  let v453 : BitVec 1 := Scalar.cmpi .ne v452 c0_i32_429
  let v457 : BitVec 1 := Scalar.andi v456 v453
  let v458 : BitVec 32 := Scalar.addi v452 v451
  let v459 : BitVec 32 := Scalar.select v457 v458 v452
  let c1_i32_440 : BitVec 32 := 1#32
  let v462 : BitVec 32 := Scalar.muli v459 c1_i32_440
  let v463 : BitVec 32 := Scalar.addi c0_i32_441 v462
  v463.toNat
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_444 : BitVec 32 := 5#32
  let v472 : BitVec 32 := Scalar.addi v2 c5_i32_444
  let c8_i32_445 : BitVec 32 := 8#32
  let c0_i32_446 : BitVec 32 := 0#32
  let v473 : BitVec 1 := Scalar.cmpi .eq c8_i32_445 c0_i32_446
  let c1_i32_447 : BitVec 32 := 1#32
  let v474 : BitVec 32 := Scalar.select v473 c1_i32_447 c8_i32_445
  let v475 : BitVec 32 := Scalar.remsi v472 v474
  let c0_i32_449 : BitVec 32 := 0#32
  let v477 : BitVec 1 := Scalar.cmpi .slt v475 c0_i32_449
  let c0_i32_450 : BitVec 32 := 0#32
  let v478 : BitVec 1 := Scalar.cmpi .slt v474 c0_i32_450
  let v479 : BitVec 1 := Scalar.xori v477 v478
  let c0_i32_448 : BitVec 32 := 0#32
  let v476 : BitVec 1 := Scalar.cmpi .ne v475 c0_i32_448
  let v480 : BitVec 1 := Scalar.andi v479 v476
  let v481 : BitVec 32 := Scalar.addi v475 v474
  let v482 : BitVec 32 := Scalar.select v480 v481 v475
  let c1_i32_459 : BitVec 32 := 1#32
  let v485 : BitVec 32 := Scalar.muli v482 c1_i32_459
  let v486 : BitVec 32 := Scalar.addi c0_i32_460 v485
  v486.toNat
def k0_dev20 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_463 : BitVec 32 := 6#32
  let v495 : BitVec 32 := Scalar.addi v2 c6_i32_463
  let c8_i32_464 : BitVec 32 := 8#32
  let c0_i32_465 : BitVec 32 := 0#32
  let v496 : BitVec 1 := Scalar.cmpi .eq c8_i32_464 c0_i32_465
  let c1_i32_466 : BitVec 32 := 1#32
  let v497 : BitVec 32 := Scalar.select v496 c1_i32_466 c8_i32_464
  let v498 : BitVec 32 := Scalar.remsi v495 v497
  let c0_i32_468 : BitVec 32 := 0#32
  let v500 : BitVec 1 := Scalar.cmpi .slt v498 c0_i32_468
  let c0_i32_469 : BitVec 32 := 0#32
  let v501 : BitVec 1 := Scalar.cmpi .slt v497 c0_i32_469
  let v502 : BitVec 1 := Scalar.xori v500 v501
  let c0_i32_467 : BitVec 32 := 0#32
  let v499 : BitVec 1 := Scalar.cmpi .ne v498 c0_i32_467
  let v503 : BitVec 1 := Scalar.andi v502 v499
  let v504 : BitVec 32 := Scalar.addi v498 v497
  let v505 : BitVec 32 := Scalar.select v503 v504 v498
  let c1_i32_478 : BitVec 32 := 1#32
  let v508 : BitVec 32 := Scalar.muli v505 c1_i32_478
  let v509 : BitVec 32 := Scalar.addi c0_i32_479 v508
  v509.toNat
def k0_dev21 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_482 : BitVec 32 := 7#32
  let v518 : BitVec 32 := Scalar.addi v2 c7_i32_482
  let c8_i32_483 : BitVec 32 := 8#32
  let c0_i32_484 : BitVec 32 := 0#32
  let v519 : BitVec 1 := Scalar.cmpi .eq c8_i32_483 c0_i32_484
  let c1_i32_485 : BitVec 32 := 1#32
  let v520 : BitVec 32 := Scalar.select v519 c1_i32_485 c8_i32_483
  let v521 : BitVec 32 := Scalar.remsi v518 v520
  let c0_i32_487 : BitVec 32 := 0#32
  let v523 : BitVec 1 := Scalar.cmpi .slt v521 c0_i32_487
  let c0_i32_488 : BitVec 32 := 0#32
  let v524 : BitVec 1 := Scalar.cmpi .slt v520 c0_i32_488
  let v525 : BitVec 1 := Scalar.xori v523 v524
  let c0_i32_486 : BitVec 32 := 0#32
  let v522 : BitVec 1 := Scalar.cmpi .ne v521 c0_i32_486
  let v526 : BitVec 1 := Scalar.andi v525 v522
  let v527 : BitVec 32 := Scalar.addi v521 v520
  let v528 : BitVec 32 := Scalar.select v526 v527 v521
  let c1_i32_497 : BitVec 32 := 1#32
  let v531 : BitVec 32 := Scalar.muli v528 c1_i32_497
  let v532 : BitVec 32 := Scalar.addi c0_i32_498 v531
  v532.toNat
def k0_off4 (d0 : Dev nD) (c1_i32_736 : BitVec 32) : Fin 3 → Nat :=
  let c1_i32_744 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v702 : BitVec 32 := Scalar.addi v2 c1_i32_736
  let c8_i32_737 : BitVec 32 := 8#32
  let c0_i32_738 : BitVec 32 := 0#32
  let v703 : BitVec 1 := Scalar.cmpi .eq c8_i32_737 c0_i32_738
  let c1_i32_739 : BitVec 32 := 1#32
  let v704 : BitVec 32 := Scalar.select v703 c1_i32_739 c8_i32_737
  let v705 : BitVec 32 := Scalar.remsi v702 v704
  let c0_i32_741 : BitVec 32 := 0#32
  let v707 : BitVec 1 := Scalar.cmpi .slt v705 c0_i32_741
  let c0_i32_742 : BitVec 32 := 0#32
  let v708 : BitVec 1 := Scalar.cmpi .slt v704 c0_i32_742
  let v709 : BitVec 1 := Scalar.xori v707 v708
  let c0_i32_740 : BitVec 32 := 0#32
  let v706 : BitVec 1 := Scalar.cmpi .ne v705 c0_i32_740
  let v710 : BitVec 1 := Scalar.andi v709 v706
  let v711 : BitVec 32 := Scalar.addi v705 v704
  let v712 : BitVec 32 := Scalar.select v710 v711 v705
  let c8_i32_743 : BitVec 32 := 8#32
  let v713 : BitVec 32 := Scalar.muli v712 c8_i32_743
  let c0_i32_755 : BitVec 32 := 0#32
  ![1, v713.toNat, 0]
def k0_dev22 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_736 : BitVec 32 := 1#32
  let v702 : BitVec 32 := Scalar.addi v2 c1_i32_736
  let c8_i32_737 : BitVec 32 := 8#32
  let c0_i32_738 : BitVec 32 := 0#32
  let v703 : BitVec 1 := Scalar.cmpi .eq c8_i32_737 c0_i32_738
  let c1_i32_739 : BitVec 32 := 1#32
  let v704 : BitVec 32 := Scalar.select v703 c1_i32_739 c8_i32_737
  let v705 : BitVec 32 := Scalar.remsi v702 v704
  let c0_i32_741 : BitVec 32 := 0#32
  let v707 : BitVec 1 := Scalar.cmpi .slt v705 c0_i32_741
  let c0_i32_742 : BitVec 32 := 0#32
  let v708 : BitVec 1 := Scalar.cmpi .slt v704 c0_i32_742
  let v709 : BitVec 1 := Scalar.xori v707 v708
  let c0_i32_740 : BitVec 32 := 0#32
  let v706 : BitVec 1 := Scalar.cmpi .ne v705 c0_i32_740
  let v710 : BitVec 1 := Scalar.andi v709 v706
  let v711 : BitVec 32 := Scalar.addi v705 v704
  let v712 : BitVec 32 := Scalar.select v710 v711 v705
  let c1_i32_751 : BitVec 32 := 1#32
  let v714 : BitVec 32 := Scalar.muli v712 c1_i32_751
  let v715 : BitVec 32 := Scalar.addi c0_i32_752 v714
  v715.toNat
def k0_dev23 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_756 : BitVec 32 := 2#32
  let v724 : BitVec 32 := Scalar.addi v2 c2_i32_756
  let c8_i32_757 : BitVec 32 := 8#32
  let c0_i32_758 : BitVec 32 := 0#32
  let v725 : BitVec 1 := Scalar.cmpi .eq c8_i32_757 c0_i32_758
  let c1_i32_759 : BitVec 32 := 1#32
  let v726 : BitVec 32 := Scalar.select v725 c1_i32_759 c8_i32_757
  let v727 : BitVec 32 := Scalar.remsi v724 v726
  let c0_i32_761 : BitVec 32 := 0#32
  let v729 : BitVec 1 := Scalar.cmpi .slt v727 c0_i32_761
  let c0_i32_762 : BitVec 32 := 0#32
  let v730 : BitVec 1 := Scalar.cmpi .slt v726 c0_i32_762
  let v731 : BitVec 1 := Scalar.xori v729 v730
  let c0_i32_760 : BitVec 32 := 0#32
  let v728 : BitVec 1 := Scalar.cmpi .ne v727 c0_i32_760
  let v732 : BitVec 1 := Scalar.andi v731 v728
  let v733 : BitVec 32 := Scalar.addi v727 v726
  let v734 : BitVec 32 := Scalar.select v732 v733 v727
  let c1_i32_771 : BitVec 32 := 1#32
  let v736 : BitVec 32 := Scalar.muli v734 c1_i32_771
  let v737 : BitVec 32 := Scalar.addi c0_i32_772 v736
  v737.toNat
def k0_dev24 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_776 : BitVec 32 := 3#32
  let v746 : BitVec 32 := Scalar.addi v2 c3_i32_776
  let c8_i32_777 : BitVec 32 := 8#32
  let c0_i32_778 : BitVec 32 := 0#32
  let v747 : BitVec 1 := Scalar.cmpi .eq c8_i32_777 c0_i32_778
  let c1_i32_779 : BitVec 32 := 1#32
  let v748 : BitVec 32 := Scalar.select v747 c1_i32_779 c8_i32_777
  let v749 : BitVec 32 := Scalar.remsi v746 v748
  let c0_i32_781 : BitVec 32 := 0#32
  let v751 : BitVec 1 := Scalar.cmpi .slt v749 c0_i32_781
  let c0_i32_782 : BitVec 32 := 0#32
  let v752 : BitVec 1 := Scalar.cmpi .slt v748 c0_i32_782
  let v753 : BitVec 1 := Scalar.xori v751 v752
  let c0_i32_780 : BitVec 32 := 0#32
  let v750 : BitVec 1 := Scalar.cmpi .ne v749 c0_i32_780
  let v754 : BitVec 1 := Scalar.andi v753 v750
  let v755 : BitVec 32 := Scalar.addi v749 v748
  let v756 : BitVec 32 := Scalar.select v754 v755 v749
  let c1_i32_791 : BitVec 32 := 1#32
  let v758 : BitVec 32 := Scalar.muli v756 c1_i32_791
  let v759 : BitVec 32 := Scalar.addi c0_i32_792 v758
  v759.toNat
def k0_dev25 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_796 : BitVec 32 := 4#32
  let v768 : BitVec 32 := Scalar.addi v2 c4_i32_796
  let c8_i32_797 : BitVec 32 := 8#32
  let c0_i32_798 : BitVec 32 := 0#32
  let v769 : BitVec 1 := Scalar.cmpi .eq c8_i32_797 c0_i32_798
  let c1_i32_799 : BitVec 32 := 1#32
  let v770 : BitVec 32 := Scalar.select v769 c1_i32_799 c8_i32_797
  let v771 : BitVec 32 := Scalar.remsi v768 v770
  let c0_i32_801 : BitVec 32 := 0#32
  let v773 : BitVec 1 := Scalar.cmpi .slt v771 c0_i32_801
  let c0_i32_802 : BitVec 32 := 0#32
  let v774 : BitVec 1 := Scalar.cmpi .slt v770 c0_i32_802
  let v775 : BitVec 1 := Scalar.xori v773 v774
  let c0_i32_800 : BitVec 32 := 0#32
  let v772 : BitVec 1 := Scalar.cmpi .ne v771 c0_i32_800
  let v776 : BitVec 1 := Scalar.andi v775 v772
  let v777 : BitVec 32 := Scalar.addi v771 v770
  let v778 : BitVec 32 := Scalar.select v776 v777 v771
  let c1_i32_811 : BitVec 32 := 1#32
  let v780 : BitVec 32 := Scalar.muli v778 c1_i32_811
  let v781 : BitVec 32 := Scalar.addi c0_i32_812 v780
  v781.toNat
def k0_dev26 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_816 : BitVec 32 := 5#32
  let v790 : BitVec 32 := Scalar.addi v2 c5_i32_816
  let c8_i32_817 : BitVec 32 := 8#32
  let c0_i32_818 : BitVec 32 := 0#32
  let v791 : BitVec 1 := Scalar.cmpi .eq c8_i32_817 c0_i32_818
  let c1_i32_819 : BitVec 32 := 1#32
  let v792 : BitVec 32 := Scalar.select v791 c1_i32_819 c8_i32_817
  let v793 : BitVec 32 := Scalar.remsi v790 v792
  let c0_i32_821 : BitVec 32 := 0#32
  let v795 : BitVec 1 := Scalar.cmpi .slt v793 c0_i32_821
  let c0_i32_822 : BitVec 32 := 0#32
  let v796 : BitVec 1 := Scalar.cmpi .slt v792 c0_i32_822
  let v797 : BitVec 1 := Scalar.xori v795 v796
  let c0_i32_820 : BitVec 32 := 0#32
  let v794 : BitVec 1 := Scalar.cmpi .ne v793 c0_i32_820
  let v798 : BitVec 1 := Scalar.andi v797 v794
  let v799 : BitVec 32 := Scalar.addi v793 v792
  let v800 : BitVec 32 := Scalar.select v798 v799 v793
  let c1_i32_831 : BitVec 32 := 1#32
  let v802 : BitVec 32 := Scalar.muli v800 c1_i32_831
  let v803 : BitVec 32 := Scalar.addi c0_i32_832 v802
  v803.toNat
def k0_dev27 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_836 : BitVec 32 := 6#32
  let v812 : BitVec 32 := Scalar.addi v2 c6_i32_836
  let c8_i32_837 : BitVec 32 := 8#32
  let c0_i32_838 : BitVec 32 := 0#32
  let v813 : BitVec 1 := Scalar.cmpi .eq c8_i32_837 c0_i32_838
  let c1_i32_839 : BitVec 32 := 1#32
  let v814 : BitVec 32 := Scalar.select v813 c1_i32_839 c8_i32_837
  let v815 : BitVec 32 := Scalar.remsi v812 v814
  let c0_i32_841 : BitVec 32 := 0#32
  let v817 : BitVec 1 := Scalar.cmpi .slt v815 c0_i32_841
  let c0_i32_842 : BitVec 32 := 0#32
  let v818 : BitVec 1 := Scalar.cmpi .slt v814 c0_i32_842
  let v819 : BitVec 1 := Scalar.xori v817 v818
  let c0_i32_840 : BitVec 32 := 0#32
  let v816 : BitVec 1 := Scalar.cmpi .ne v815 c0_i32_840
  let v820 : BitVec 1 := Scalar.andi v819 v816
  let v821 : BitVec 32 := Scalar.addi v815 v814
  let v822 : BitVec 32 := Scalar.select v820 v821 v815
  let c1_i32_851 : BitVec 32 := 1#32
  let v824 : BitVec 32 := Scalar.muli v822 c1_i32_851
  let v825 : BitVec 32 := Scalar.addi c0_i32_852 v824
  v825.toNat
def k0_dev28 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_856 : BitVec 32 := 7#32
  let v834 : BitVec 32 := Scalar.addi v2 c7_i32_856
  let c8_i32_857 : BitVec 32 := 8#32
  let c0_i32_858 : BitVec 32 := 0#32
  let v835 : BitVec 1 := Scalar.cmpi .eq c8_i32_857 c0_i32_858
  let c1_i32_859 : BitVec 32 := 1#32
  let v836 : BitVec 32 := Scalar.select v835 c1_i32_859 c8_i32_857
  let v837 : BitVec 32 := Scalar.remsi v834 v836
  let c0_i32_861 : BitVec 32 := 0#32
  let v839 : BitVec 1 := Scalar.cmpi .slt v837 c0_i32_861
  let c0_i32_862 : BitVec 32 := 0#32
  let v840 : BitVec 1 := Scalar.cmpi .slt v836 c0_i32_862
  let v841 : BitVec 1 := Scalar.xori v839 v840
  let c0_i32_860 : BitVec 32 := 0#32
  let v838 : BitVec 1 := Scalar.cmpi .ne v837 c0_i32_860
  let v842 : BitVec 1 := Scalar.andi v841 v838
  let v843 : BitVec 32 := Scalar.addi v837 v836
  let v844 : BitVec 32 := Scalar.select v842 v843 v837
  let c1_i32_871 : BitVec 32 := 1#32
  let v846 : BitVec 32 := Scalar.muli v844 c1_i32_871
  let v847 : BitVec 32 := Scalar.addi c0_i32_872 v846
  v847.toNat
def k0_off5 (d0 : Dev nD) : Fin 3 → Nat :=
  let c1_877 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_876 : BitVec 32 := 8#32
  let v856 : BitVec 32 := Scalar.muli v2 c8_i32_876
  let v857 : Index := Scalar.indexCast v856
  let c0_878 : Index := 0#32
  ![1, v857.toNat, 0]
def k0_off6 (d0 : Dev nD) : Fin 3 → Nat :=
  let c1_i32_1004 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1002 : BitVec 32 := 8#32
  let v954 : BitVec 32 := Scalar.muli v2 c8_i32_1002
  let c0_i32_1011 : BitVec 32 := 0#32
  ![1, v954.toNat, 0]
def k0_dev29 (d0 : Dev nD) : Nat :=
  let c0_i32_1010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_994 : BitVec 32 := 1#32
  let v942 : BitVec 32 := Scalar.addi v2 c1_i32_994
  let c8_i32_995 : BitVec 32 := 8#32
  let c0_i32_996 : BitVec 32 := 0#32
  let v943 : BitVec 1 := Scalar.cmpi .eq c8_i32_995 c0_i32_996
  let c1_i32_997 : BitVec 32 := 1#32
  let v944 : BitVec 32 := Scalar.select v943 c1_i32_997 c8_i32_995
  let v945 : BitVec 32 := Scalar.remsi v942 v944
  let c0_i32_999 : BitVec 32 := 0#32
  let v947 : BitVec 1 := Scalar.cmpi .slt v945 c0_i32_999
  let c0_i32_1000 : BitVec 32 := 0#32
  let v948 : BitVec 1 := Scalar.cmpi .slt v944 c0_i32_1000
  let v949 : BitVec 1 := Scalar.xori v947 v948
  let c0_i32_998 : BitVec 32 := 0#32
  let v946 : BitVec 1 := Scalar.cmpi .ne v945 c0_i32_998
  let v950 : BitVec 1 := Scalar.andi v949 v946
  let v951 : BitVec 32 := Scalar.addi v945 v944
  let v952 : BitVec 32 := Scalar.select v950 v951 v945
  let c1_i32_1009 : BitVec 32 := 1#32
  let v955 : BitVec 32 := Scalar.muli v952 c1_i32_1009
  let v956 : BitVec 32 := Scalar.addi c0_i32_1010 v955
  v956.toNat
def k0_dev30 (d0 : Dev nD) : Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1013 : BitVec 32 := 2#32
  let v965 : BitVec 32 := Scalar.addi v2 c2_i32_1013
  let c8_i32_1014 : BitVec 32 := 8#32
  let c0_i32_1015 : BitVec 32 := 0#32
  let v966 : BitVec 1 := Scalar.cmpi .eq c8_i32_1014 c0_i32_1015
  let c1_i32_1016 : BitVec 32 := 1#32
  let v967 : BitVec 32 := Scalar.select v966 c1_i32_1016 c8_i32_1014
  let v968 : BitVec 32 := Scalar.remsi v965 v967
  let c0_i32_1018 : BitVec 32 := 0#32
  let v970 : BitVec 1 := Scalar.cmpi .slt v968 c0_i32_1018
  let c0_i32_1019 : BitVec 32 := 0#32
  let v971 : BitVec 1 := Scalar.cmpi .slt v967 c0_i32_1019
  let v972 : BitVec 1 := Scalar.xori v970 v971
  let c0_i32_1017 : BitVec 32 := 0#32
  let v969 : BitVec 1 := Scalar.cmpi .ne v968 c0_i32_1017
  let v973 : BitVec 1 := Scalar.andi v972 v969
  let v974 : BitVec 32 := Scalar.addi v968 v967
  let v975 : BitVec 32 := Scalar.select v973 v974 v968
  let c1_i32_1028 : BitVec 32 := 1#32
  let v978 : BitVec 32 := Scalar.muli v975 c1_i32_1028
  let v979 : BitVec 32 := Scalar.addi c0_i32_1029 v978
  v979.toNat
def k0_dev31 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1032 : BitVec 32 := 3#32
  let v988 : BitVec 32 := Scalar.addi v2 c3_i32_1032
  let c8_i32_1033 : BitVec 32 := 8#32
  let c0_i32_1034 : BitVec 32 := 0#32
  let v989 : BitVec 1 := Scalar.cmpi .eq c8_i32_1033 c0_i32_1034
  let c1_i32_1035 : BitVec 32 := 1#32
  let v990 : BitVec 32 := Scalar.select v989 c1_i32_1035 c8_i32_1033
  let v991 : BitVec 32 := Scalar.remsi v988 v990
  let c0_i32_1037 : BitVec 32 := 0#32
  let v993 : BitVec 1 := Scalar.cmpi .slt v991 c0_i32_1037
  let c0_i32_1038 : BitVec 32 := 0#32
  let v994 : BitVec 1 := Scalar.cmpi .slt v990 c0_i32_1038
  let v995 : BitVec 1 := Scalar.xori v993 v994
  let c0_i32_1036 : BitVec 32 := 0#32
  let v992 : BitVec 1 := Scalar.cmpi .ne v991 c0_i32_1036
  let v996 : BitVec 1 := Scalar.andi v995 v992
  let v997 : BitVec 32 := Scalar.addi v991 v990
  let v998 : BitVec 32 := Scalar.select v996 v997 v991
  let c1_i32_1047 : BitVec 32 := 1#32
  let v1001 : BitVec 32 := Scalar.muli v998 c1_i32_1047
  let v1002 : BitVec 32 := Scalar.addi c0_i32_1048 v1001
  v1002.toNat
def k0_dev32 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1051 : BitVec 32 := 4#32
  let v1011 : BitVec 32 := Scalar.addi v2 c4_i32_1051
  let c8_i32_1052 : BitVec 32 := 8#32
  let c0_i32_1053 : BitVec 32 := 0#32
  let v1012 : BitVec 1 := Scalar.cmpi .eq c8_i32_1052 c0_i32_1053
  let c1_i32_1054 : BitVec 32 := 1#32
  let v1013 : BitVec 32 := Scalar.select v1012 c1_i32_1054 c8_i32_1052
  let v1014 : BitVec 32 := Scalar.remsi v1011 v1013
  let c0_i32_1056 : BitVec 32 := 0#32
  let v1016 : BitVec 1 := Scalar.cmpi .slt v1014 c0_i32_1056
  let c0_i32_1057 : BitVec 32 := 0#32
  let v1017 : BitVec 1 := Scalar.cmpi .slt v1013 c0_i32_1057
  let v1018 : BitVec 1 := Scalar.xori v1016 v1017
  let c0_i32_1055 : BitVec 32 := 0#32
  let v1015 : BitVec 1 := Scalar.cmpi .ne v1014 c0_i32_1055
  let v1019 : BitVec 1 := Scalar.andi v1018 v1015
  let v1020 : BitVec 32 := Scalar.addi v1014 v1013
  let v1021 : BitVec 32 := Scalar.select v1019 v1020 v1014
  let c1_i32_1066 : BitVec 32 := 1#32
  let v1024 : BitVec 32 := Scalar.muli v1021 c1_i32_1066
  let v1025 : BitVec 32 := Scalar.addi c0_i32_1067 v1024
  v1025.toNat
def k0_dev33 (d0 : Dev nD) : Nat :=
  let c0_i32_1086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1070 : BitVec 32 := 5#32
  let v1034 : BitVec 32 := Scalar.addi v2 c5_i32_1070
  let c8_i32_1071 : BitVec 32 := 8#32
  let c0_i32_1072 : BitVec 32 := 0#32
  let v1035 : BitVec 1 := Scalar.cmpi .eq c8_i32_1071 c0_i32_1072
  let c1_i32_1073 : BitVec 32 := 1#32
  let v1036 : BitVec 32 := Scalar.select v1035 c1_i32_1073 c8_i32_1071
  let v1037 : BitVec 32 := Scalar.remsi v1034 v1036
  let c0_i32_1075 : BitVec 32 := 0#32
  let v1039 : BitVec 1 := Scalar.cmpi .slt v1037 c0_i32_1075
  let c0_i32_1076 : BitVec 32 := 0#32
  let v1040 : BitVec 1 := Scalar.cmpi .slt v1036 c0_i32_1076
  let v1041 : BitVec 1 := Scalar.xori v1039 v1040
  let c0_i32_1074 : BitVec 32 := 0#32
  let v1038 : BitVec 1 := Scalar.cmpi .ne v1037 c0_i32_1074
  let v1042 : BitVec 1 := Scalar.andi v1041 v1038
  let v1043 : BitVec 32 := Scalar.addi v1037 v1036
  let v1044 : BitVec 32 := Scalar.select v1042 v1043 v1037
  let c1_i32_1085 : BitVec 32 := 1#32
  let v1047 : BitVec 32 := Scalar.muli v1044 c1_i32_1085
  let v1048 : BitVec 32 := Scalar.addi c0_i32_1086 v1047
  v1048.toNat
def k0_dev34 (d0 : Dev nD) : Nat :=
  let c0_i32_1105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1089 : BitVec 32 := 6#32
  let v1057 : BitVec 32 := Scalar.addi v2 c6_i32_1089
  let c8_i32_1090 : BitVec 32 := 8#32
  let c0_i32_1091 : BitVec 32 := 0#32
  let v1058 : BitVec 1 := Scalar.cmpi .eq c8_i32_1090 c0_i32_1091
  let c1_i32_1092 : BitVec 32 := 1#32
  let v1059 : BitVec 32 := Scalar.select v1058 c1_i32_1092 c8_i32_1090
  let v1060 : BitVec 32 := Scalar.remsi v1057 v1059
  let c0_i32_1094 : BitVec 32 := 0#32
  let v1062 : BitVec 1 := Scalar.cmpi .slt v1060 c0_i32_1094
  let c0_i32_1095 : BitVec 32 := 0#32
  let v1063 : BitVec 1 := Scalar.cmpi .slt v1059 c0_i32_1095
  let v1064 : BitVec 1 := Scalar.xori v1062 v1063
  let c0_i32_1093 : BitVec 32 := 0#32
  let v1061 : BitVec 1 := Scalar.cmpi .ne v1060 c0_i32_1093
  let v1065 : BitVec 1 := Scalar.andi v1064 v1061
  let v1066 : BitVec 32 := Scalar.addi v1060 v1059
  let v1067 : BitVec 32 := Scalar.select v1065 v1066 v1060
  let c1_i32_1104 : BitVec 32 := 1#32
  let v1070 : BitVec 32 := Scalar.muli v1067 c1_i32_1104
  let v1071 : BitVec 32 := Scalar.addi c0_i32_1105 v1070
  v1071.toNat
def k0_dev35 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1108 : BitVec 32 := 7#32
  let v1080 : BitVec 32 := Scalar.addi v2 c7_i32_1108
  let c8_i32_1109 : BitVec 32 := 8#32
  let c0_i32_1110 : BitVec 32 := 0#32
  let v1081 : BitVec 1 := Scalar.cmpi .eq c8_i32_1109 c0_i32_1110
  let c1_i32_1111 : BitVec 32 := 1#32
  let v1082 : BitVec 32 := Scalar.select v1081 c1_i32_1111 c8_i32_1109
  let v1083 : BitVec 32 := Scalar.remsi v1080 v1082
  let c0_i32_1113 : BitVec 32 := 0#32
  let v1085 : BitVec 1 := Scalar.cmpi .slt v1083 c0_i32_1113
  let c0_i32_1114 : BitVec 32 := 0#32
  let v1086 : BitVec 1 := Scalar.cmpi .slt v1082 c0_i32_1114
  let v1087 : BitVec 1 := Scalar.xori v1085 v1086
  let c0_i32_1112 : BitVec 32 := 0#32
  let v1084 : BitVec 1 := Scalar.cmpi .ne v1083 c0_i32_1112
  let v1088 : BitVec 1 := Scalar.andi v1087 v1084
  let v1089 : BitVec 32 := Scalar.addi v1083 v1082
  let v1090 : BitVec 32 := Scalar.select v1088 v1089 v1083
  let c1_i32_1123 : BitVec 32 := 1#32
  let v1093 : BitVec 32 := Scalar.muli v1090 c1_i32_1123
  let v1094 : BitVec 32 := Scalar.addi c0_i32_1124 v1093
  v1094.toNat
def k0_off7 (d0 : Dev nD) (c1_i32_1362 : BitVec 32) : Fin 3 → Nat :=
  let c2_i32_1370 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1264 : BitVec 32 := Scalar.addi v2 c1_i32_1362
  let c8_i32_1363 : BitVec 32 := 8#32
  let c0_i32_1364 : BitVec 32 := 0#32
  let v1265 : BitVec 1 := Scalar.cmpi .eq c8_i32_1363 c0_i32_1364
  let c1_i32_1365 : BitVec 32 := 1#32
  let v1266 : BitVec 32 := Scalar.select v1265 c1_i32_1365 c8_i32_1363
  let v1267 : BitVec 32 := Scalar.remsi v1264 v1266
  let c0_i32_1367 : BitVec 32 := 0#32
  let v1269 : BitVec 1 := Scalar.cmpi .slt v1267 c0_i32_1367
  let c0_i32_1368 : BitVec 32 := 0#32
  let v1270 : BitVec 1 := Scalar.cmpi .slt v1266 c0_i32_1368
  let v1271 : BitVec 1 := Scalar.xori v1269 v1270
  let c0_i32_1366 : BitVec 32 := 0#32
  let v1268 : BitVec 1 := Scalar.cmpi .ne v1267 c0_i32_1366
  let v1272 : BitVec 1 := Scalar.andi v1271 v1268
  let v1273 : BitVec 32 := Scalar.addi v1267 v1266
  let v1274 : BitVec 32 := Scalar.select v1272 v1273 v1267
  let c8_i32_1369 : BitVec 32 := 8#32
  let v1275 : BitVec 32 := Scalar.muli v1274 c8_i32_1369
  let c0_i32_1381 : BitVec 32 := 0#32
  ![2, v1275.toNat, 0]
def k0_dev36 (d0 : Dev nD) : Nat :=
  let c0_i32_1378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1362 : BitVec 32 := 1#32
  let v1264 : BitVec 32 := Scalar.addi v2 c1_i32_1362
  let c8_i32_1363 : BitVec 32 := 8#32
  let c0_i32_1364 : BitVec 32 := 0#32
  let v1265 : BitVec 1 := Scalar.cmpi .eq c8_i32_1363 c0_i32_1364
  let c1_i32_1365 : BitVec 32 := 1#32
  let v1266 : BitVec 32 := Scalar.select v1265 c1_i32_1365 c8_i32_1363
  let v1267 : BitVec 32 := Scalar.remsi v1264 v1266
  let c0_i32_1367 : BitVec 32 := 0#32
  let v1269 : BitVec 1 := Scalar.cmpi .slt v1267 c0_i32_1367
  let c0_i32_1368 : BitVec 32 := 0#32
  let v1270 : BitVec 1 := Scalar.cmpi .slt v1266 c0_i32_1368
  let v1271 : BitVec 1 := Scalar.xori v1269 v1270
  let c0_i32_1366 : BitVec 32 := 0#32
  let v1268 : BitVec 1 := Scalar.cmpi .ne v1267 c0_i32_1366
  let v1272 : BitVec 1 := Scalar.andi v1271 v1268
  let v1273 : BitVec 32 := Scalar.addi v1267 v1266
  let v1274 : BitVec 32 := Scalar.select v1272 v1273 v1267
  let c1_i32_1377 : BitVec 32 := 1#32
  let v1276 : BitVec 32 := Scalar.muli v1274 c1_i32_1377
  let v1277 : BitVec 32 := Scalar.addi c0_i32_1378 v1276
  v1277.toNat
def k0_dev37 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1382 : BitVec 32 := 2#32
  let v1286 : BitVec 32 := Scalar.addi v2 c2_i32_1382
  let c8_i32_1383 : BitVec 32 := 8#32
  let c0_i32_1384 : BitVec 32 := 0#32
  let v1287 : BitVec 1 := Scalar.cmpi .eq c8_i32_1383 c0_i32_1384
  let c1_i32_1385 : BitVec 32 := 1#32
  let v1288 : BitVec 32 := Scalar.select v1287 c1_i32_1385 c8_i32_1383
  let v1289 : BitVec 32 := Scalar.remsi v1286 v1288
  let c0_i32_1387 : BitVec 32 := 0#32
  let v1291 : BitVec 1 := Scalar.cmpi .slt v1289 c0_i32_1387
  let c0_i32_1388 : BitVec 32 := 0#32
  let v1292 : BitVec 1 := Scalar.cmpi .slt v1288 c0_i32_1388
  let v1293 : BitVec 1 := Scalar.xori v1291 v1292
  let c0_i32_1386 : BitVec 32 := 0#32
  let v1290 : BitVec 1 := Scalar.cmpi .ne v1289 c0_i32_1386
  let v1294 : BitVec 1 := Scalar.andi v1293 v1290
  let v1295 : BitVec 32 := Scalar.addi v1289 v1288
  let v1296 : BitVec 32 := Scalar.select v1294 v1295 v1289
  let c1_i32_1397 : BitVec 32 := 1#32
  let v1298 : BitVec 32 := Scalar.muli v1296 c1_i32_1397
  let v1299 : BitVec 32 := Scalar.addi c0_i32_1398 v1298
  v1299.toNat
def k0_dev38 (d0 : Dev nD) : Nat :=
  let c0_i32_1418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1402 : BitVec 32 := 3#32
  let v1308 : BitVec 32 := Scalar.addi v2 c3_i32_1402
  let c8_i32_1403 : BitVec 32 := 8#32
  let c0_i32_1404 : BitVec 32 := 0#32
  let v1309 : BitVec 1 := Scalar.cmpi .eq c8_i32_1403 c0_i32_1404
  let c1_i32_1405 : BitVec 32 := 1#32
  let v1310 : BitVec 32 := Scalar.select v1309 c1_i32_1405 c8_i32_1403
  let v1311 : BitVec 32 := Scalar.remsi v1308 v1310
  let c0_i32_1407 : BitVec 32 := 0#32
  let v1313 : BitVec 1 := Scalar.cmpi .slt v1311 c0_i32_1407
  let c0_i32_1408 : BitVec 32 := 0#32
  let v1314 : BitVec 1 := Scalar.cmpi .slt v1310 c0_i32_1408
  let v1315 : BitVec 1 := Scalar.xori v1313 v1314
  let c0_i32_1406 : BitVec 32 := 0#32
  let v1312 : BitVec 1 := Scalar.cmpi .ne v1311 c0_i32_1406
  let v1316 : BitVec 1 := Scalar.andi v1315 v1312
  let v1317 : BitVec 32 := Scalar.addi v1311 v1310
  let v1318 : BitVec 32 := Scalar.select v1316 v1317 v1311
  let c1_i32_1417 : BitVec 32 := 1#32
  let v1320 : BitVec 32 := Scalar.muli v1318 c1_i32_1417
  let v1321 : BitVec 32 := Scalar.addi c0_i32_1418 v1320
  v1321.toNat
def k0_dev39 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1422 : BitVec 32 := 4#32
  let v1330 : BitVec 32 := Scalar.addi v2 c4_i32_1422
  let c8_i32_1423 : BitVec 32 := 8#32
  let c0_i32_1424 : BitVec 32 := 0#32
  let v1331 : BitVec 1 := Scalar.cmpi .eq c8_i32_1423 c0_i32_1424
  let c1_i32_1425 : BitVec 32 := 1#32
  let v1332 : BitVec 32 := Scalar.select v1331 c1_i32_1425 c8_i32_1423
  let v1333 : BitVec 32 := Scalar.remsi v1330 v1332
  let c0_i32_1427 : BitVec 32 := 0#32
  let v1335 : BitVec 1 := Scalar.cmpi .slt v1333 c0_i32_1427
  let c0_i32_1428 : BitVec 32 := 0#32
  let v1336 : BitVec 1 := Scalar.cmpi .slt v1332 c0_i32_1428
  let v1337 : BitVec 1 := Scalar.xori v1335 v1336
  let c0_i32_1426 : BitVec 32 := 0#32
  let v1334 : BitVec 1 := Scalar.cmpi .ne v1333 c0_i32_1426
  let v1338 : BitVec 1 := Scalar.andi v1337 v1334
  let v1339 : BitVec 32 := Scalar.addi v1333 v1332
  let v1340 : BitVec 32 := Scalar.select v1338 v1339 v1333
  let c1_i32_1437 : BitVec 32 := 1#32
  let v1342 : BitVec 32 := Scalar.muli v1340 c1_i32_1437
  let v1343 : BitVec 32 := Scalar.addi c0_i32_1438 v1342
  v1343.toNat
def k0_dev40 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1442 : BitVec 32 := 5#32
  let v1352 : BitVec 32 := Scalar.addi v2 c5_i32_1442
  let c8_i32_1443 : BitVec 32 := 8#32
  let c0_i32_1444 : BitVec 32 := 0#32
  let v1353 : BitVec 1 := Scalar.cmpi .eq c8_i32_1443 c0_i32_1444
  let c1_i32_1445 : BitVec 32 := 1#32
  let v1354 : BitVec 32 := Scalar.select v1353 c1_i32_1445 c8_i32_1443
  let v1355 : BitVec 32 := Scalar.remsi v1352 v1354
  let c0_i32_1447 : BitVec 32 := 0#32
  let v1357 : BitVec 1 := Scalar.cmpi .slt v1355 c0_i32_1447
  let c0_i32_1448 : BitVec 32 := 0#32
  let v1358 : BitVec 1 := Scalar.cmpi .slt v1354 c0_i32_1448
  let v1359 : BitVec 1 := Scalar.xori v1357 v1358
  let c0_i32_1446 : BitVec 32 := 0#32
  let v1356 : BitVec 1 := Scalar.cmpi .ne v1355 c0_i32_1446
  let v1360 : BitVec 1 := Scalar.andi v1359 v1356
  let v1361 : BitVec 32 := Scalar.addi v1355 v1354
  let v1362 : BitVec 32 := Scalar.select v1360 v1361 v1355
  let c1_i32_1457 : BitVec 32 := 1#32
  let v1364 : BitVec 32 := Scalar.muli v1362 c1_i32_1457
  let v1365 : BitVec 32 := Scalar.addi c0_i32_1458 v1364
  v1365.toNat
def k0_dev41 (d0 : Dev nD) : Nat :=
  let c0_i32_1478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1462 : BitVec 32 := 6#32
  let v1374 : BitVec 32 := Scalar.addi v2 c6_i32_1462
  let c8_i32_1463 : BitVec 32 := 8#32
  let c0_i32_1464 : BitVec 32 := 0#32
  let v1375 : BitVec 1 := Scalar.cmpi .eq c8_i32_1463 c0_i32_1464
  let c1_i32_1465 : BitVec 32 := 1#32
  let v1376 : BitVec 32 := Scalar.select v1375 c1_i32_1465 c8_i32_1463
  let v1377 : BitVec 32 := Scalar.remsi v1374 v1376
  let c0_i32_1467 : BitVec 32 := 0#32
  let v1379 : BitVec 1 := Scalar.cmpi .slt v1377 c0_i32_1467
  let c0_i32_1468 : BitVec 32 := 0#32
  let v1380 : BitVec 1 := Scalar.cmpi .slt v1376 c0_i32_1468
  let v1381 : BitVec 1 := Scalar.xori v1379 v1380
  let c0_i32_1466 : BitVec 32 := 0#32
  let v1378 : BitVec 1 := Scalar.cmpi .ne v1377 c0_i32_1466
  let v1382 : BitVec 1 := Scalar.andi v1381 v1378
  let v1383 : BitVec 32 := Scalar.addi v1377 v1376
  let v1384 : BitVec 32 := Scalar.select v1382 v1383 v1377
  let c1_i32_1477 : BitVec 32 := 1#32
  let v1386 : BitVec 32 := Scalar.muli v1384 c1_i32_1477
  let v1387 : BitVec 32 := Scalar.addi c0_i32_1478 v1386
  v1387.toNat
def k0_dev42 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1482 : BitVec 32 := 7#32
  let v1396 : BitVec 32 := Scalar.addi v2 c7_i32_1482
  let c8_i32_1483 : BitVec 32 := 8#32
  let c0_i32_1484 : BitVec 32 := 0#32
  let v1397 : BitVec 1 := Scalar.cmpi .eq c8_i32_1483 c0_i32_1484
  let c1_i32_1485 : BitVec 32 := 1#32
  let v1398 : BitVec 32 := Scalar.select v1397 c1_i32_1485 c8_i32_1483
  let v1399 : BitVec 32 := Scalar.remsi v1396 v1398
  let c0_i32_1487 : BitVec 32 := 0#32
  let v1401 : BitVec 1 := Scalar.cmpi .slt v1399 c0_i32_1487
  let c0_i32_1488 : BitVec 32 := 0#32
  let v1402 : BitVec 1 := Scalar.cmpi .slt v1398 c0_i32_1488
  let v1403 : BitVec 1 := Scalar.xori v1401 v1402
  let c0_i32_1486 : BitVec 32 := 0#32
  let v1400 : BitVec 1 := Scalar.cmpi .ne v1399 c0_i32_1486
  let v1404 : BitVec 1 := Scalar.andi v1403 v1400
  let v1405 : BitVec 32 := Scalar.addi v1399 v1398
  let v1406 : BitVec 32 := Scalar.select v1404 v1405 v1399
  let c1_i32_1497 : BitVec 32 := 1#32
  let v1408 : BitVec 32 := Scalar.muli v1406 c1_i32_1497
  let v1409 : BitVec 32 := Scalar.addi c0_i32_1498 v1408
  v1409.toNat
def k0_off8 (d0 : Dev nD) : Fin 3 → Nat :=
  let c2_1503 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1502 : BitVec 32 := 8#32
  let v1418 : BitVec 32 := Scalar.muli v2 c8_i32_1502
  let v1419 : Index := Scalar.indexCast v1418
  let c0_1504 : Index := 0#32
  ![2, v1419.toNat, 0]
def k0_off9 (d0 : Dev nD) : Fin 3 → Nat :=
  let c2_i32_1630 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1628 : BitVec 32 := 8#32
  let v1516 : BitVec 32 := Scalar.muli v2 c8_i32_1628
  let c0_i32_1637 : BitVec 32 := 0#32
  ![2, v1516.toNat, 0]
def k0_dev43 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1620 : BitVec 32 := 1#32
  let v1504 : BitVec 32 := Scalar.addi v2 c1_i32_1620
  let c8_i32_1621 : BitVec 32 := 8#32
  let c0_i32_1622 : BitVec 32 := 0#32
  let v1505 : BitVec 1 := Scalar.cmpi .eq c8_i32_1621 c0_i32_1622
  let c1_i32_1623 : BitVec 32 := 1#32
  let v1506 : BitVec 32 := Scalar.select v1505 c1_i32_1623 c8_i32_1621
  let v1507 : BitVec 32 := Scalar.remsi v1504 v1506
  let c0_i32_1625 : BitVec 32 := 0#32
  let v1509 : BitVec 1 := Scalar.cmpi .slt v1507 c0_i32_1625
  let c0_i32_1626 : BitVec 32 := 0#32
  let v1510 : BitVec 1 := Scalar.cmpi .slt v1506 c0_i32_1626
  let v1511 : BitVec 1 := Scalar.xori v1509 v1510
  let c0_i32_1624 : BitVec 32 := 0#32
  let v1508 : BitVec 1 := Scalar.cmpi .ne v1507 c0_i32_1624
  let v1512 : BitVec 1 := Scalar.andi v1511 v1508
  let v1513 : BitVec 32 := Scalar.addi v1507 v1506
  let v1514 : BitVec 32 := Scalar.select v1512 v1513 v1507
  let c1_i32_1635 : BitVec 32 := 1#32
  let v1517 : BitVec 32 := Scalar.muli v1514 c1_i32_1635
  let v1518 : BitVec 32 := Scalar.addi c0_i32_1636 v1517
  v1518.toNat
def k0_dev44 (d0 : Dev nD) : Nat :=
  let c0_i32_1655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1639 : BitVec 32 := 2#32
  let v1527 : BitVec 32 := Scalar.addi v2 c2_i32_1639
  let c8_i32_1640 : BitVec 32 := 8#32
  let c0_i32_1641 : BitVec 32 := 0#32
  let v1528 : BitVec 1 := Scalar.cmpi .eq c8_i32_1640 c0_i32_1641
  let c1_i32_1642 : BitVec 32 := 1#32
  let v1529 : BitVec 32 := Scalar.select v1528 c1_i32_1642 c8_i32_1640
  let v1530 : BitVec 32 := Scalar.remsi v1527 v1529
  let c0_i32_1644 : BitVec 32 := 0#32
  let v1532 : BitVec 1 := Scalar.cmpi .slt v1530 c0_i32_1644
  let c0_i32_1645 : BitVec 32 := 0#32
  let v1533 : BitVec 1 := Scalar.cmpi .slt v1529 c0_i32_1645
  let v1534 : BitVec 1 := Scalar.xori v1532 v1533
  let c0_i32_1643 : BitVec 32 := 0#32
  let v1531 : BitVec 1 := Scalar.cmpi .ne v1530 c0_i32_1643
  let v1535 : BitVec 1 := Scalar.andi v1534 v1531
  let v1536 : BitVec 32 := Scalar.addi v1530 v1529
  let v1537 : BitVec 32 := Scalar.select v1535 v1536 v1530
  let c1_i32_1654 : BitVec 32 := 1#32
  let v1540 : BitVec 32 := Scalar.muli v1537 c1_i32_1654
  let v1541 : BitVec 32 := Scalar.addi c0_i32_1655 v1540
  v1541.toNat
def k0_dev45 (d0 : Dev nD) : Nat :=
  let c0_i32_1674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1658 : BitVec 32 := 3#32
  let v1550 : BitVec 32 := Scalar.addi v2 c3_i32_1658
  let c8_i32_1659 : BitVec 32 := 8#32
  let c0_i32_1660 : BitVec 32 := 0#32
  let v1551 : BitVec 1 := Scalar.cmpi .eq c8_i32_1659 c0_i32_1660
  let c1_i32_1661 : BitVec 32 := 1#32
  let v1552 : BitVec 32 := Scalar.select v1551 c1_i32_1661 c8_i32_1659
  let v1553 : BitVec 32 := Scalar.remsi v1550 v1552
  let c0_i32_1663 : BitVec 32 := 0#32
  let v1555 : BitVec 1 := Scalar.cmpi .slt v1553 c0_i32_1663
  let c0_i32_1664 : BitVec 32 := 0#32
  let v1556 : BitVec 1 := Scalar.cmpi .slt v1552 c0_i32_1664
  let v1557 : BitVec 1 := Scalar.xori v1555 v1556
  let c0_i32_1662 : BitVec 32 := 0#32
  let v1554 : BitVec 1 := Scalar.cmpi .ne v1553 c0_i32_1662
  let v1558 : BitVec 1 := Scalar.andi v1557 v1554
  let v1559 : BitVec 32 := Scalar.addi v1553 v1552
  let v1560 : BitVec 32 := Scalar.select v1558 v1559 v1553
  let c1_i32_1673 : BitVec 32 := 1#32
  let v1563 : BitVec 32 := Scalar.muli v1560 c1_i32_1673
  let v1564 : BitVec 32 := Scalar.addi c0_i32_1674 v1563
  v1564.toNat
def k0_dev46 (d0 : Dev nD) : Nat :=
  let c0_i32_1693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1677 : BitVec 32 := 4#32
  let v1573 : BitVec 32 := Scalar.addi v2 c4_i32_1677
  let c8_i32_1678 : BitVec 32 := 8#32
  let c0_i32_1679 : BitVec 32 := 0#32
  let v1574 : BitVec 1 := Scalar.cmpi .eq c8_i32_1678 c0_i32_1679
  let c1_i32_1680 : BitVec 32 := 1#32
  let v1575 : BitVec 32 := Scalar.select v1574 c1_i32_1680 c8_i32_1678
  let v1576 : BitVec 32 := Scalar.remsi v1573 v1575
  let c0_i32_1682 : BitVec 32 := 0#32
  let v1578 : BitVec 1 := Scalar.cmpi .slt v1576 c0_i32_1682
  let c0_i32_1683 : BitVec 32 := 0#32
  let v1579 : BitVec 1 := Scalar.cmpi .slt v1575 c0_i32_1683
  let v1580 : BitVec 1 := Scalar.xori v1578 v1579
  let c0_i32_1681 : BitVec 32 := 0#32
  let v1577 : BitVec 1 := Scalar.cmpi .ne v1576 c0_i32_1681
  let v1581 : BitVec 1 := Scalar.andi v1580 v1577
  let v1582 : BitVec 32 := Scalar.addi v1576 v1575
  let v1583 : BitVec 32 := Scalar.select v1581 v1582 v1576
  let c1_i32_1692 : BitVec 32 := 1#32
  let v1586 : BitVec 32 := Scalar.muli v1583 c1_i32_1692
  let v1587 : BitVec 32 := Scalar.addi c0_i32_1693 v1586
  v1587.toNat
def k0_dev47 (d0 : Dev nD) : Nat :=
  let c0_i32_1712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1696 : BitVec 32 := 5#32
  let v1596 : BitVec 32 := Scalar.addi v2 c5_i32_1696
  let c8_i32_1697 : BitVec 32 := 8#32
  let c0_i32_1698 : BitVec 32 := 0#32
  let v1597 : BitVec 1 := Scalar.cmpi .eq c8_i32_1697 c0_i32_1698
  let c1_i32_1699 : BitVec 32 := 1#32
  let v1598 : BitVec 32 := Scalar.select v1597 c1_i32_1699 c8_i32_1697
  let v1599 : BitVec 32 := Scalar.remsi v1596 v1598
  let c0_i32_1701 : BitVec 32 := 0#32
  let v1601 : BitVec 1 := Scalar.cmpi .slt v1599 c0_i32_1701
  let c0_i32_1702 : BitVec 32 := 0#32
  let v1602 : BitVec 1 := Scalar.cmpi .slt v1598 c0_i32_1702
  let v1603 : BitVec 1 := Scalar.xori v1601 v1602
  let c0_i32_1700 : BitVec 32 := 0#32
  let v1600 : BitVec 1 := Scalar.cmpi .ne v1599 c0_i32_1700
  let v1604 : BitVec 1 := Scalar.andi v1603 v1600
  let v1605 : BitVec 32 := Scalar.addi v1599 v1598
  let v1606 : BitVec 32 := Scalar.select v1604 v1605 v1599
  let c1_i32_1711 : BitVec 32 := 1#32
  let v1609 : BitVec 32 := Scalar.muli v1606 c1_i32_1711
  let v1610 : BitVec 32 := Scalar.addi c0_i32_1712 v1609
  v1610.toNat
def k0_dev48 (d0 : Dev nD) : Nat :=
  let c0_i32_1731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1715 : BitVec 32 := 6#32
  let v1619 : BitVec 32 := Scalar.addi v2 c6_i32_1715
  let c8_i32_1716 : BitVec 32 := 8#32
  let c0_i32_1717 : BitVec 32 := 0#32
  let v1620 : BitVec 1 := Scalar.cmpi .eq c8_i32_1716 c0_i32_1717
  let c1_i32_1718 : BitVec 32 := 1#32
  let v1621 : BitVec 32 := Scalar.select v1620 c1_i32_1718 c8_i32_1716
  let v1622 : BitVec 32 := Scalar.remsi v1619 v1621
  let c0_i32_1720 : BitVec 32 := 0#32
  let v1624 : BitVec 1 := Scalar.cmpi .slt v1622 c0_i32_1720
  let c0_i32_1721 : BitVec 32 := 0#32
  let v1625 : BitVec 1 := Scalar.cmpi .slt v1621 c0_i32_1721
  let v1626 : BitVec 1 := Scalar.xori v1624 v1625
  let c0_i32_1719 : BitVec 32 := 0#32
  let v1623 : BitVec 1 := Scalar.cmpi .ne v1622 c0_i32_1719
  let v1627 : BitVec 1 := Scalar.andi v1626 v1623
  let v1628 : BitVec 32 := Scalar.addi v1622 v1621
  let v1629 : BitVec 32 := Scalar.select v1627 v1628 v1622
  let c1_i32_1730 : BitVec 32 := 1#32
  let v1632 : BitVec 32 := Scalar.muli v1629 c1_i32_1730
  let v1633 : BitVec 32 := Scalar.addi c0_i32_1731 v1632
  v1633.toNat
def k0_dev49 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1734 : BitVec 32 := 7#32
  let v1642 : BitVec 32 := Scalar.addi v2 c7_i32_1734
  let c8_i32_1735 : BitVec 32 := 8#32
  let c0_i32_1736 : BitVec 32 := 0#32
  let v1643 : BitVec 1 := Scalar.cmpi .eq c8_i32_1735 c0_i32_1736
  let c1_i32_1737 : BitVec 32 := 1#32
  let v1644 : BitVec 32 := Scalar.select v1643 c1_i32_1737 c8_i32_1735
  let v1645 : BitVec 32 := Scalar.remsi v1642 v1644
  let c0_i32_1739 : BitVec 32 := 0#32
  let v1647 : BitVec 1 := Scalar.cmpi .slt v1645 c0_i32_1739
  let c0_i32_1740 : BitVec 32 := 0#32
  let v1648 : BitVec 1 := Scalar.cmpi .slt v1644 c0_i32_1740
  let v1649 : BitVec 1 := Scalar.xori v1647 v1648
  let c0_i32_1738 : BitVec 32 := 0#32
  let v1646 : BitVec 1 := Scalar.cmpi .ne v1645 c0_i32_1738
  let v1650 : BitVec 1 := Scalar.andi v1649 v1646
  let v1651 : BitVec 32 := Scalar.addi v1645 v1644
  let v1652 : BitVec 32 := Scalar.select v1650 v1651 v1645
  let c1_i32_1749 : BitVec 32 := 1#32
  let v1655 : BitVec 32 := Scalar.muli v1652 c1_i32_1749
  let v1656 : BitVec 32 := Scalar.addi c0_i32_1750 v1655
  v1656.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x512 : Shape := ⟨2, ![64, 512]⟩
abbrev S512x8192 : Shape := ⟨2, ![512, 8192]⟩
abbrev S8192x512 : Shape := ⟨2, ![8192, 512]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x512, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x512, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/-
The kernel's body written once per layer: the printed body is a fixed start (six weight copies, seven signals, one
wait), three layers of one text, and a final copy of the last layer's result. Here that text is given with the layer
and the hop as variables, and the printed body is shown equal to it.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.AllToAllMlp

open Cert.KernelIdeal Cert.KernelIdeal.Gen
open Idealize.ShloMosaic
open Idealize.SL.Sem

variable {F : FTy → Type} [FloatOps F]

/-- Programs of a TensorCore with this kernel's effects. -/
abbrev KProg (F : FTy → Type) (α : Type) : Type 1 := Prog (TpuEff nD τ sig (Elt F) Λ₀ .tc) α

/-! ## Loops over a list -/

/-- Run `f` at the members of a list in order. -/
def seqL {ι : Type} (f : ι → KProg F PUnit) : List ι → KProg F PUnit
  | [] => pure ⟨⟩
  | i :: l => f i >>= fun _ => seqL f l

/-- Run `f` at the members of a list in order, passing a value along. -/
def seqAcc {ι α : Type} (f : ι → α → KProg F α) : List ι → α → KProg F α
  | [], a => pure a
  | i :: l, a => f i a >>= fun b => seqAcc f l b

/-- The seven hops, in program order. -/
abbrev hops : List (Fin 7) := [0, 1, 2, 3, 4, 5, 6]
/-- The three layers, in program order. -/
abbrev layers : List (Fin 3) := [0, 1, 2]

/-! ## The buffers and the semaphores -/

abbrev xM : Memref sig .tc .vmem S64x512 .f32 := Memref.whole cc0_stg0_0
abbrev oM : Memref sig .tc .vmem S64x512 .f32 := Memref.whole cc0_stg1_0
abbrev winM : Memref sig .tc .vmem S3x512x1024 .f32 := Memref.whole cc0_scratch0
abbrev woutM : Memref sig .tc .vmem S3x1024x512 .f32 := Memref.whole cc0_scratch1
abbrev sendM : Memref sig .tc .vmem S3x64x512 .f32 := Memref.whole cc0_scratch2
abbrev commM : Memref sig .tc .vmem S3x7x8x512 .f32 := Memref.whole cc0_scratch3
abbrev xbM : Memref sig .tc .vmem S3x64x512 .f32 := Memref.whole cc0_scratch4

/-- The array of the layer's first weights, and of its second. -/
abbrev winA : Fin 3 → Memref sig .tc .hbm S512x1024 .f32
  | 0 => Memref.whole main_arg1 | 1 => Memref.whole main_arg2 | 2 => Memref.whole main_arg3
abbrev woutA : Fin 3 → Memref sig .tc .hbm S1024x512 .f32
  | 0 => Memref.whole main_arg4 | 1 => Memref.whole main_arg5 | 2 => Memref.whole main_arg6

theorem winA_whole (l : Fin 3) : (winA l).IsWhole := by fin_cases l <;> exact Memref.isWhole_whole _
theorem woutA_whole (l : Fin 3) : (woutA l).IsWhole := by fin_cases l <;> exact Memref.isWhole_whole _

/-- The runtime's barrier semaphore. -/
abbrev barS : Sem sig := (SemArray.scalar (sig.barrier 0 rfl) : Sems sig S_).sem

theorem inb_w (l : Fin 3) (i : Fin 2) : ∀ a, (![l.val, i.val] : Fin 2 → Nat) a + S1x1.size a ≤ S3x2.size a := by
  revert l i; decide
theorem inb_t (l : Fin 3) (k : Fin 7) : ∀ a, (![l.val, k.val] : Fin 2 → Nat) a + S1x1.size a ≤ S3x7.size a := by
  revert l k; decide

/-- The weight copies' semaphores. -/
def wS (l : Fin 3) (i : Fin 2) : DmaSem sig :=
  ((cc0_scratch5.slice (Rect.unit (s := S3x2) ![l.val, i.val] S1x1.size (inb_w l i)) : DmaSems sig S1x1).squeeze S_ squeezes_S1x1_S_ : DmaSems sig S_).sem

/-- The transfers' semaphores: 0 the scatter's source, 1 its target, 2 the gather's source, 3 its target. -/
def tArr : Fin 4 → DmaSems sig S3x7
  | 0 => cc0_scratch6 | 1 => cc0_scratch7 | 2 => cc0_scratch8 | 3 => cc0_scratch9
def tS (t : Fin 4) (l : Fin 3) (k : Fin 7) : DmaSem sig :=
  (((tArr t).slice (Rect.unit (s := S3x7) ![l.val, k.val] S1x1.size (inb_t l k)) : DmaSems sig S1x1).squeeze S_ squeezes_S1x1_S_ : DmaSems sig S_).sem

/-! ## The peers and the offsets, as the program computes them -/

/-- The peer the `k`-th signal goes to. -/
def barDev (d : Dev nD) : Fin 7 → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩

/-- The peer of the layer's `k`-th scatter transfer. -/
def rsDev (d : Dev nD) : Fin 3 → Fin 7 → Dev nD
  | 0, 0 => ⟨k0_dev8 d, k0_dev8_lt d⟩ | 0, 1 => ⟨k0_dev9 d, k0_dev9_lt d⟩ | 0, 2 => ⟨k0_dev10 d, k0_dev10_lt d⟩ | 0, 3 => ⟨k0_dev11 d, k0_dev11_lt d⟩
  | 0, 4 => ⟨k0_dev12 d, k0_dev12_lt d⟩ | 0, 5 => ⟨k0_dev13 d, k0_dev13_lt d⟩ | 0, 6 => ⟨k0_dev14 d, k0_dev14_lt d⟩
  | 1, 0 => ⟨k0_dev22 d, k0_dev22_lt d⟩ | 1, 1 => ⟨k0_dev23 d, k0_dev23_lt d⟩ | 1, 2 => ⟨k0_dev24 d, k0_dev24_lt d⟩ | 1, 3 => ⟨k0_dev25 d, k0_dev25_lt d⟩
  | 1, 4 => ⟨k0_dev26 d, k0_dev26_lt d⟩ | 1, 5 => ⟨k0_dev27 d, k0_dev27_lt d⟩ | 1, 6 => ⟨k0_dev28 d, k0_dev28_lt d⟩
  | 2, 0 => ⟨k0_dev36 d, k0_dev36_lt d⟩ | 2, 1 => ⟨k0_dev37 d, k0_dev37_lt d⟩ | 2, 2 => ⟨k0_dev38 d, k0_dev38_lt d⟩ | 2, 3 => ⟨k0_dev39 d, k0_dev39_lt d⟩
  | 2, 4 => ⟨k0_dev40 d, k0_dev40_lt d⟩ | 2, 5 => ⟨k0_dev41 d, k0_dev41_lt d⟩ | 2, 6 => ⟨k0_dev42 d, k0_dev42_lt d⟩

/-- The peer of the layer's `k`-th gather transfer. -/
def agDev (d : Dev nD) : Fin 3 → Fin 7 → Dev nD
  | 0, 0 => ⟨k0_dev15 d, k0_dev15_lt d⟩ | 0, 1 => ⟨k0_dev16 d, k0_dev16_lt d⟩ | 0, 2 => ⟨k0_dev17 d, k0_dev17_lt d⟩ | 0, 3 => ⟨k0_dev18 d, k0_dev18_lt d⟩
  | 0, 4 => ⟨k0_dev19 d, k0_dev19_lt d⟩ | 0, 5 => ⟨k0_dev20 d, k0_dev20_lt d⟩ | 0, 6 => ⟨k0_dev21 d, k0_dev21_lt d⟩
  | 1, 0 => ⟨k0_dev29 d, k0_dev29_lt d⟩ | 1, 1 => ⟨k0_dev30 d, k0_dev30_lt d⟩ | 1, 2 => ⟨k0_dev31 d, k0_dev31_lt d⟩ | 1, 3 => ⟨k0_dev32 d, k0_dev32_lt d⟩
  | 1, 4 => ⟨k0_dev33 d, k0_dev33_lt d⟩ | 1, 5 => ⟨k0_dev34 d, k0_dev34_lt d⟩ | 1, 6 => ⟨k0_dev35 d, k0_dev35_lt d⟩
  | 2, 0 => ⟨k0_dev43 d, k0_dev43_lt d⟩ | 2, 1 => ⟨k0_dev44 d, k0_dev44_lt d⟩ | 2, 2 => ⟨k0_dev45 d, k0_dev45_lt d⟩ | 2, 3 => ⟨k0_dev46 d, k0_dev46_lt d⟩
  | 2, 4 => ⟨k0_dev47 d, k0_dev47_lt d⟩ | 2, 5 => ⟨k0_dev48 d, k0_dev48_lt d⟩ | 2, 6 => ⟨k0_dev49 d, k0_dev49_lt d⟩

/-- The device `k + 1` places further on. -/
def peer (d : Dev nD) (k : Fin 7) : Dev nD := ⟨(d.val + (k.val + 1)) % 8, Nat.mod_lt _ (by decide)⟩

theorem barDev_eq : ∀ (d : Dev nD) (k : Fin 7), barDev d k = peer d k := by decide +kernel
theorem rsDev_eq : ∀ (d : Dev nD) (l : Fin 3) (k : Fin 7), rsDev d l k = peer d k := by decide +kernel
theorem agDev_eq : ∀ (d : Dev nD) (l : Fin 3) (k : Fin 7), agDev d l k = peer d k := by decide +kernel

/-- Where the chunk of the layer's partial result for the `k`-th peer begins. -/
def rsOff (d : Dev nD) (l : Fin 3) (k : Fin 7) : Fin 3 → Nat := match l with
  | 0 => k0_off1 d (BitVec.ofNat 32 (1 + k.val)) | 1 => k0_off4 d (BitVec.ofNat 32 (1 + k.val)) | 2 => k0_off7 d (BitVec.ofNat 32 (1 + k.val))
/-- Where the device's own chunk begins, as the loads and the store address it; -/
def ownOff (d : Dev nD) (l : Fin 3) : Fin 3 → Nat := match l with | 0 => k0_off2 d | 1 => k0_off5 d | 2 => k0_off8 d
/-- and as the gather's transfers address it. -/
def agOff (d : Dev nD) (l : Fin 3) : Fin 3 → Nat := match l with | 0 => k0_off3 d | 1 => k0_off6 d | 2 => k0_off9 d

theorem rsOff_eq : ∀ (d : Dev nD) (l : Fin 3) (k : Fin 7), rsOff d l k = ![l.val, 8 * (peer d k).val, 0] := by decide +kernel
theorem ownOff_eq : ∀ (d : Dev nD) (l : Fin 3), ownOff d l = ![l.val, 8 * d.val, 0] := by decide +kernel
theorem agOff_eq : ∀ (d : Dev nD) (l : Fin 3), agOff d l = ![l.val, 8 * d.val, 0] := by decide +kernel

theorem inb_chunk : ∀ (l : Fin 3) (d : Dev nD), ∀ a, (![l.val, 8 * d.val, 0] : Fin 3 → Nat) a + S1x8x512.size a ≤ S3x64x512.size a := by decide +kernel
/-- The place of an 8-row chunk in the `3 × 64 × 512` buffers. -/
abbrev Off : Type := { o : Fin 3 → Nat // ∀ a, o a + S1x8x512.size a ≤ S3x64x512.size a }

/-- The `j`-th chunk of layer `l`. -/
def chunk (l : Fin 3) (j : Dev nD) : Off := ⟨![l.val, 8 * j.val, 0], inb_chunk l j⟩

/-- Whom the body addresses, and where its chunks begin. -/
structure Plan where
  bar : Fin 7 → Dev nD
  rs : Fin 3 → Fin 7 → Dev nD
  ag : Fin 3 → Fin 7 → Dev nD
  rsO : Fin 3 → Fin 7 → Off
  ownO : Fin 3 → Off
  agO : Fin 3 → Off

/-- The plan as the program computes it on device `d`; -/
def asPrinted (d : Dev nD) : Plan where
  bar := barDev d
  rs := rsDev d
  ag := agDev d
  rsO l k := ⟨rsOff d l k, by rw [rsOff_eq]; exact inb_chunk l _⟩
  ownO l := ⟨ownOff d l, by rw [ownOff_eq]; exact inb_chunk l _⟩
  agO l := ⟨agOff d l, by rw [agOff_eq]; exact inb_chunk l _⟩

/-- and as it is meant. -/
def plain (d : Dev nD) : Plan where
  bar := peer d
  rs _ := peer d
  ag _ := peer d
  rsO l k := chunk l (peer d k)
  ownO l := chunk l d
  agO l := chunk l d

theorem asPrinted_eq (d : Dev nD) : asPrinted d = plain d := by
  unfold asPrinted plain
  congr
  · funext k; exact barDev_eq d k
  · funext l k; exact rsDev_eq d l k
  · funext l k; exact agDev_eq d l k
  · funext l k; exact Subtype.ext (rsOff_eq d l k)
  · funext l; exact Subtype.ext (ownOff_eq d l)
  · funext l; exact Subtype.ext (agOff_eq d l)

theorem inb_layer : ∀ (l : Fin 3), ∀ a, (![l.val, 0, 0] : Fin 3 → Nat) a + S1x64x512.size a ≤ S3x64x512.size a := by decide +kernel
theorem inb_win : ∀ (l : Fin 3), ∀ a, (![l.val, 0, 0] : Fin 3 → Nat) a + S1x512x1024.size a ≤ S3x512x1024.size a := by decide +kernel
theorem inb_wout : ∀ (l : Fin 3), ∀ a, (![l.val, 0, 0] : Fin 3 → Nat) a + S1x1024x512.size a ≤ S3x1024x512.size a := by decide +kernel
theorem inb_comm : ∀ (l : Fin 3) (k : Fin 7), ∀ a, (![l.val, k.val, 0, 0] : Fin 4 → Nat) a + S1x1x8x512.size a ≤ S3x7x8x512.size a := by decide +kernel

/-! ## The views the transfers and the accesses name -/

abbrev winR (l : Fin 3) : Rect S3x512x1024 := Rect.unit (s := S3x512x1024) ![l.val, 0, 0] S1x512x1024.size (inb_win l)
abbrev woutR (l : Fin 3) : Rect S3x1024x512 := Rect.unit (s := S3x1024x512) ![l.val, 0, 0] S1x1024x512.size (inb_wout l)
abbrev layerR (l : Fin 3) : Rect S3x64x512 := Rect.unit (s := S3x64x512) ![l.val, 0, 0] S1x64x512.size (inb_layer l)
abbrev commR (l : Fin 3) (k : Fin 7) : Rect S3x7x8x512 := Rect.unit (s := S3x7x8x512) ![l.val, k.val, 0, 0] S1x1x8x512.size (inb_comm l k)
abbrev chR (o : Off) : Rect S3x64x512 := Rect.unit (s := S3x64x512) o.1 S1x8x512.size o.2
abbrev outR : Rect S64x512 := Rect.unit (s := S64x512) ![0, 0] S64x512.size inb_S64x512_S64x512_0_0

abbrev winV (l : Fin 3) : Memref sig .tc .vmem S512x1024 .f32 :=
  (winM.slice (winR l) (fun _ => rfl) : Memref sig .tc .vmem S1x512x1024 .f32).squeeze S512x1024 squeezes_S1x512x1024_S512x1024
abbrev woutV (l : Fin 3) : Memref sig .tc .vmem S1024x512 .f32 :=
  (woutM.slice (woutR l) (fun _ => rfl) : Memref sig .tc .vmem S1x1024x512 .f32).squeeze S1024x512 squeezes_S1x1024x512_S1024x512
abbrev commV (l : Fin 3) (k : Fin 7) : Memref sig .tc .vmem S8x512 .f32 :=
  (commM.slice (commR l k) (fun _ => rfl) : Memref sig .tc .vmem S1x1x8x512 .f32).squeeze S8x512 squeezes_S1x1x8x512_S8x512
abbrev sendV (o : Off) : Memref sig .tc .vmem S8x512 .f32 :=
  (sendM.slice (chR o) (fun _ => rfl) : Memref sig .tc .vmem S1x8x512 .f32).squeeze S8x512 squeezes_S1x8x512_S8x512
abbrev xbV (o : Off) : Memref sig .tc .vmem S8x512 .f32 :=
  (xbM.slice (chR o) (fun _ => rfl) : Memref sig .tc .vmem S1x8x512 .f32).squeeze S8x512 squeezes_S1x8x512_S8x512

/-! ## The arithmetic of a layer -/

/-- A layer's partial result: the activations against the layer's first weights, negative entries cleared, against
    its second weights. -/
def mlp (x : FVec F S64x512 .f32) (w : Vec F S1x512x1024 .f32) (u : Vec F S1x1024x512 .f32) : FVec F S1x64x512 .f32 :=
  shapeCast S1x64x512
    (matmul dot_S64x1024_S1024x512_S64x512_1_0_0_1_n_n none
      (maximumf (matmul dot_S64x512_S512x1024_S64x1024_1_0_0_1_n_n none x (shapeCast S512x1024 w shapeCasts_S1x512x1024_S512x1024 : FVec F S512x1024 .f32)
        (constant S64x1024 .f32 0x00000000#32)) (broadcast S64x1024 (Scalar.ofBits .f32 0x00000000#32)))
      (shapeCast S1024x512 u shapeCasts_S1x1024x512_S1024x512 : FVec F S1024x512 .f32) (constant S64x512 .f32 0x00000000#32))
    shapeCasts_S64x512_S1x64x512

/-- A landed chunk added to the sum so far. -/
def addChunk (a : FVec F S8x512 .f32) (v : Vec F S1x1x8x512 .f32) : FVec F S8x512 .f32 :=
  addf a (shapeCast S8x512 v shapeCasts_S1x1x8x512_S8x512)

/-! ## The program -/

/-- Start the two weight copies of a layer. -/
def startW (l : Fin 3) : KProg F PUnit := do
  Prog.lift (.enqueueDma (winA l) (.here (winV l)) (.dma (wS l 0)) (winA_whole l).wordExact ((View.wordExact_bits rfl).reshape _ _) ⟨Or.inl rfl, trivial⟩)
  Prog.lift (.enqueueDma (woutA l) (.here (woutV l)) (.dma (wS l 1)) (woutA_whole l).wordExact ((View.wordExact_bits rfl).reshape _ _) ⟨Or.inl rfl, trivial⟩)

/-- The handshake: one unit to each peer's barrier semaphore, then the wait for seven. -/
def handshake (P : Plan) : KProg F PUnit := do
  seqL (fun k => semSignalWord (P.bar k) barS 1#32) hops
  semWaitWord barS 7#32

/-- The layer's partial result computed and stored. -/
def compute (l : Fin 3) (x : FVec F S64x512 .f32) : KProg F PUnit := do
  Prog.lift (.waitDma2 (wS l 0) (winA l) (winV l) (winA_whole l).wordExact ((View.wordExact_bits rfl).reshape _ _))
  let w : Vec F S1x512x1024 .f32 ← Prog.lift (.load winM (winR l).toLoadRect (View.loadsAt_vmem h_S1x512x1024))
  Prog.lift (.waitDma2 (wS l 1) (woutA l) (woutV l) (woutA_whole l).wordExact ((View.wordExact_bits rfl).reshape _ _))
  let u : Vec F S1x1024x512 .f32 ← Prog.lift (.load woutM (woutR l).toLoadRect (View.loadsAt_vmem h_S1x1024x512))
  let _ : Vec F S1x64x512 .f32 ← Prog.lift (.load sendM (layerR l).toLoadRect (View.loadsAt_vmem h_S1x64x512))
  Prog.lift (.store sendM (layerR l) (mlp x w u) Finset.univ (View.stores_vmem_bits_univ h_S1x64x512 rfl) (.inl rfl))

/-- One scatter transfer: the chunk of the `k`-th peer to that peer. -/
def rsStart (P : Plan) (l : Fin 3) (k : Fin 7) : KProg F PUnit :=
  Prog.lift (.enqueueDma (sendV (P.rsO l k)) (.remote (Dev.tc (P.rs l k)) (commV l k) (.dma (tS 0 l k))) (.dma (tS 1 l k))
    ((View.wordExact_bits rfl).reshape _ _) ((View.wordExact_bits rfl).reshape _ _) ⟨⟨rfl, Or.inl rfl⟩, trivial⟩)

/-- One landed chunk awaited and added. -/
def rsTake (P : Plan) (l : Fin 3) (k : Fin 7) (a : FVec F S8x512 .f32) : KProg F (FVec F S8x512 .f32) := do
  Prog.lift (.waitDma2 (tS 1 l k) (sendV (P.rsO l k)) (commV l k) ((View.wordExact_bits rfl).reshape _ _) ((View.wordExact_bits rfl).reshape _ _))
  let v : Vec F S1x1x8x512 .f32 ← Prog.lift (.load commM (commR l k).toLoadRect (View.loadsAt_vmem h_S1x1x8x512))
  pure (addChunk a v)

/-- The device's own chunk of the sum. -/
def reduce (P : Plan) (l : Fin 3) : KProg F PUnit := do
  let v : Vec F S1x8x512 .f32 ← Prog.lift (.load sendM (chR (P.ownO l)).toLoadRect (View.loadsAt_vmem h_S1x8x512))
  let a : FVec F S8x512 .f32 ← seqAcc (rsTake P l) hops (shapeCast S8x512 v shapeCasts_S1x8x512_S8x512)
  let _ : Vec F S1x8x512 .f32 ← Prog.lift (.load xbM (chR (P.ownO l)).toLoadRect (View.loadsAt_vmem h_S1x8x512))
  Prog.lift (.store xbM (chR (P.ownO l)) (shapeCast S1x8x512 a shapeCasts_S8x512_S1x8x512) Finset.univ (View.stores_vmem_bits_univ h_S1x8x512 rfl) (.inl rfl))

/-- One gather transfer: the device's own chunk of the sum to the `k`-th peer. -/
def agStart (P : Plan) (l : Fin 3) (k : Fin 7) : KProg F PUnit :=
  Prog.lift (.enqueueDma (xbV (P.agO l)) (.remote (Dev.tc (P.ag l k)) (xbV (P.agO l)) (.dma (tS 2 l k))) (.dma (tS 3 l k))
    ((View.wordExact_bits rfl).reshape _ _) ((View.wordExact_bits rfl).reshape _ _) ⟨⟨rfl, Or.inl rfl⟩, trivial⟩)

/-- The wait for one gathered chunk. -/
def agTake (P : Plan) (l : Fin 3) (k : Fin 7) : KProg F PUnit :=
  Prog.lift (.waitDma2 (tS 3 l k) (xbV (P.agO l)) (xbV (P.agO l)) ((View.wordExact_bits rfl).reshape _ _) ((View.wordExact_bits rfl).reshape _ _))

/-- The waits for the two transfers this device issued to its `k`-th peer. -/
def drain (P : Plan) (l : Fin 3) (k : Fin 7) : KProg F PUnit := do
  Prog.lift (.waitDma2 (tS 0 l k) (commV l k) (sendV (P.rsO l k)) ((View.wordExact_bits rfl).reshape _ _) ((View.wordExact_bits rfl).reshape _ _))
  Prog.lift (.waitDma2 (tS 2 l k) (xbV (P.agO l)) (xbV (P.agO l)) ((View.wordExact_bits rfl).reshape _ _) ((View.wordExact_bits rfl).reshape _ _))

/-- A layer. -/
def layer (P : Plan) (l : Fin 3) (x : FVec F S64x512 .f32) : KProg F (FVec F S64x512 .f32) := do
  compute l x
  seqL (rsStart P l) hops
  reduce P l
  seqL (agStart P l) hops
  seqL (agTake P l) hops
  seqL (drain P l) hops
  let v : Vec F S1x64x512 .f32 ← Prog.lift (.load xbM (layerR l).toLoadRect (View.loadsAt_vmem h_S1x64x512))
  pure (shapeCast S64x512 v shapeCasts_S1x64x512_S64x512)

/-- The body. -/
def body : KProg F PUnit := do
  let d : Dev nD ← Prog.lift .deviceId
  seqL startW layers
  handshake (asPrinted d)
  let v : Vec F S64x512 .f32 ← Prog.lift (.load xM outR.toLoadRect (View.loadsAt_vmem h_S64x512))
  let x : FVec F S64x512 .f32 ← seqAcc (layer (asPrinted d)) layers (shapeCast S64x512 v shapeCasts_S64x512_S64x512)
  let _ : Vec F S64x512 .f32 ← Prog.lift (.load oM outR.toLoadRect (View.loadsAt_vmem h_S64x512))
  Prog.lift (.store oM outR x Finset.univ (View.stores_vmem_bits_univ h_S64x512 rfl) (.inl rfl))

/-- The printed body at the launch's arguments. -/
abbrev printed : KProg F PUnit :=
  cc0_body xM (Memref.isWhole_whole _) (Memref.whole main_arg1) (Memref.isWhole_whole _) (Memref.whole main_arg4) (Memref.isWhole_whole _)
    (Memref.whole main_arg2) (Memref.isWhole_whole _) (Memref.whole main_arg5) (Memref.isWhole_whole _) (Memref.whole main_arg3) (Memref.isWhole_whole _)
    (Memref.whole main_arg6) (Memref.isWhole_whole _) oM (Memref.isWhole_whole _) winM (Memref.isWhole_whole _) woutM (Memref.isWhole_whole _)
    sendM (Memref.isWhole_whole _) commM (Memref.isWhole_whole _) xbM (Memref.isWhole_whole _) cc0_scratch5 cc0_scratch6 cc0_scratch7 cc0_scratch8 cc0_scratch9

end Cert.AllToAllMlp

end
-- ==== Proof.Geometry.lean ====
/-
The element sets of the buffers' pieces — layers, chunks, landing slots —, that they tile their buffers, and what a
load, a store or a transfer of a piece reads and writes, by coordinates.
-/
module

public import proofs.«01_k».proof.Proof.Prog

@[expose] public section

set_option maxRecDepth 16384

noncomputable section

namespace Cert.AllToAllMlp

open Cert.KernelIdeal Cert.KernelIdeal.Gen
open Idealize.ShloMosaic
open Idealize.SL.Sem

variable {F : FTy → Type} [FloatOps F]

/-! ## The pieces' element sets -/

abbrev chS (o : Off) : Finset S3x64x512.Idx := (chR o).set
abbrev layS (l : Fin 3) : Finset S3x64x512.Idx := (layerR l).set
abbrev commS (lk : Fin 3 × Fin 7) : Finset S3x7x8x512.Idx := (commR lk.1 lk.2).set
abbrev winSt (l : Fin 3) : Finset S3x512x1024.Idx := (winR l).set
abbrev woutSt (l : Fin 3) : Finset S3x1024x512.Idx := (woutR l).set

theorem set_sendV (o : Off) : (sendV o).view.set = chS o :=
  (View.set_reshape _ _).trans (View.set_slice_whole _ _)
theorem set_xbV (o : Off) : (xbV o).view.set = chS o :=
  (View.set_reshape _ _).trans (View.set_slice_whole _ _)
theorem set_commV (l : Fin 3) (k : Fin 7) : (commV l k).view.set = commS (l, k) :=
  (View.set_reshape _ _).trans (View.set_slice_whole _ _)
theorem set_winV (l : Fin 3) : (winV l).view.set = winSt l :=
  (View.set_reshape _ _).trans (View.set_slice_whole _ _)
theorem set_woutV (l : Fin 3) : (woutV l).view.set = woutSt l :=
  (View.set_reshape _ _).trans (View.set_slice_whole _ _)

theorem mem_chS {l : Fin 3} {j : Dev nD} {i : S3x64x512.Idx} :
    i ∈ chS (chunk l j) ↔ (i 0).val = l.val ∧ 8 * j.val ≤ (i 1).val ∧ (i 1).val < 8 * j.val + 8 := by
  rw [Rect.mem_set_unit]
  constructor
  · intro h
    have h0 : l.val ≤ (i 0).val ∧ (i 0).val < l.val + 1 := h 0
    exact ⟨by omega, h 1⟩
  · rintro ⟨h0, h1⟩ a
    have h2 := (i 2).isLt
    fin_cases a
    · exact (show l.val ≤ (i 0).val ∧ (i 0).val < l.val + 1 by omega)
    · exact h1
    · exact (show 0 ≤ (i 2).val ∧ (i 2).val < 0 + 512 from ⟨Nat.zero_le _, by simpa using h2⟩)
theorem mem_layS {l : Fin 3} {i : S3x64x512.Idx} : i ∈ layS l ↔ (i 0).val = l.val := by
  rw [Rect.mem_set_unit]
  constructor
  · intro h
    have h0 : l.val ≤ (i 0).val ∧ (i 0).val < l.val + 1 := h 0
    omega
  · intro h0 a
    have h1 := (i 1).isLt
    have h2 := (i 2).isLt
    fin_cases a
    · exact (show l.val ≤ (i 0).val ∧ (i 0).val < l.val + 1 by omega)
    · exact ⟨Nat.zero_le _, by simpa using h1⟩
    · exact ⟨Nat.zero_le _, by simpa using h2⟩
theorem mem_commS {lk : Fin 3 × Fin 7} {i : S3x7x8x512.Idx} : i ∈ commS lk ↔ (i 0).val = lk.1.val ∧ (i 1).val = lk.2.val := by
  rw [Rect.mem_set_unit]
  constructor
  · intro h
    have h0 : lk.1.val ≤ (i 0).val ∧ (i 0).val < lk.1.val + 1 := h 0
    have h1 : lk.2.val ≤ (i 1).val ∧ (i 1).val < lk.2.val + 1 := h 1
    omega
  · rintro ⟨h0, h1⟩ a
    have h2 := (i 2).isLt
    have h3 := (i 3).isLt
    fin_cases a
    · exact (show lk.1.val ≤ (i 0).val ∧ (i 0).val < lk.1.val + 1 by omega)
    · exact (show lk.2.val ≤ (i 1).val ∧ (i 1).val < lk.2.val + 1 by omega)
    · exact ⟨Nat.zero_le _, by simpa using h2⟩
    · exact ⟨Nat.zero_le _, by simpa using h3⟩
theorem mem_winSt {l : Fin 3} {i : S3x512x1024.Idx} : i ∈ winSt l ↔ (i 0).val = l.val := by
  rw [Rect.mem_set_unit]
  constructor
  · intro h
    have h0 : l.val ≤ (i 0).val ∧ (i 0).val < l.val + 1 := h 0
    omega
  · intro h0 a
    have h1 := (i 1).isLt
    have h2 := (i 2).isLt
    fin_cases a
    · exact (show l.val ≤ (i 0).val ∧ (i 0).val < l.val + 1 by omega)
    · exact ⟨Nat.zero_le _, by simpa using h1⟩
    · exact ⟨Nat.zero_le _, by simpa using h2⟩
theorem mem_woutSt {l : Fin 3} {i : S3x1024x512.Idx} : i ∈ woutSt l ↔ (i 0).val = l.val := by
  rw [Rect.mem_set_unit]
  constructor
  · intro h
    have h0 : l.val ≤ (i 0).val ∧ (i 0).val < l.val + 1 := h 0
    omega
  · intro h0 a
    have h1 := (i 1).isLt
    have h2 := (i 2).isLt
    fin_cases a
    · exact (show l.val ≤ (i 0).val ∧ (i 0).val < l.val + 1 by omega)
    · exact ⟨Nat.zero_le _, by simpa using h1⟩
    · exact ⟨Nat.zero_le _, by simpa using h2⟩

/-! ## They tile: a layer is its chunks, a buffer its layers or its slots -/

/-- The device whose chunk holds row `r`. -/
def rowDev (r : Fin 64) : Dev nD := ⟨r.val / 8, by have := r.isLt; show _ < 8; omega⟩

theorem chS_disj (l : Fin 3) (j j' : Dev nD) (h : j ≠ j') : Disjoint (chS (chunk l j)) (chS (chunk l j')) :=
  Finset.disjoint_left.mpr fun i h1 h2 => h (Fin.ext (by have a := mem_chS.mp h1; have b := mem_chS.mp h2; omega))
theorem layS_disj (l l' : Fin 3) (h : l ≠ l') : Disjoint (layS l) (layS l') :=
  Finset.disjoint_left.mpr fun i h1 h2 => h (Fin.ext (by have a := mem_layS.mp h1; have b := mem_layS.mp h2; omega))
theorem commS_disj (t t' : Fin 3 × Fin 7) (h : t ≠ t') : Disjoint (commS t) (commS t') :=
  Finset.disjoint_left.mpr fun i h1 h2 => h (by
    have a := mem_commS.mp h1; have b := mem_commS.mp h2
    exact Prod.ext (Fin.ext (by omega)) (Fin.ext (by omega)))
theorem winSt_disj (l l' : Fin 3) (h : l ≠ l') : Disjoint (winSt l) (winSt l') :=
  Finset.disjoint_left.mpr fun i h1 h2 => h (Fin.ext (by have a := mem_winSt.mp h1; have b := mem_winSt.mp h2; omega))
theorem woutSt_disj (l l' : Fin 3) (h : l ≠ l') : Disjoint (woutSt l) (woutSt l') :=
  Finset.disjoint_left.mpr fun i h1 h2 => h (Fin.ext (by have a := mem_woutSt.mp h1; have b := mem_woutSt.mp h2; omega))

theorem layS_eq (l : Fin 3) : layS l = (Finset.univ : Finset (Dev nD)).biUnion fun j => chS (chunk l j) := by
  ext i
  rw [Finset.mem_biUnion]
  constructor
  · intro h
    exact ⟨rowDev (i 1), Finset.mem_univ _, mem_chS.mpr ⟨mem_layS.mp h, by show 8 * ((i 1).val / 8) ≤ _ ∧ _ < 8 * ((i 1).val / 8) + 8; omega⟩⟩
  · rintro ⟨j, -, h⟩; exact mem_layS.mpr (mem_chS.mp h).1
theorem univ_layS : (Finset.univ : Finset S3x64x512.Idx) = (Finset.univ : Finset (Fin 3)).biUnion layS := by
  ext i; exact ⟨fun _ => Finset.mem_biUnion.mpr ⟨i 0, Finset.mem_univ _, mem_layS.mpr rfl⟩, fun _ => Finset.mem_univ _⟩
theorem univ_commS : (Finset.univ : Finset S3x7x8x512.Idx) = (Finset.univ : Finset (Fin 3 × Fin 7)).biUnion commS := by
  ext i; exact ⟨fun _ => Finset.mem_biUnion.mpr ⟨(i 0, i 1), Finset.mem_univ _, mem_commS.mpr ⟨rfl, rfl⟩⟩, fun _ => Finset.mem_univ _⟩
theorem univ_winSt : (Finset.univ : Finset S3x512x1024.Idx) = (Finset.univ : Finset (Fin 3)).biUnion winSt := by
  ext i; exact ⟨fun _ => Finset.mem_biUnion.mpr ⟨i 0, Finset.mem_univ _, mem_winSt.mpr rfl⟩, fun _ => Finset.mem_univ _⟩
theorem univ_woutSt : (Finset.univ : Finset S3x1024x512.Idx) = (Finset.univ : Finset (Fin 3)).biUnion woutSt := by
  ext i; exact ⟨fun _ => Finset.mem_biUnion.mpr ⟨i 0, Finset.mem_univ _, mem_woutSt.mpr rfl⟩, fun _ => Finset.mem_univ _⟩

/-! ## Values of pieces -/

/-- Rows `8 j` to `8 j + 7` of a `64 × 512` array. -/
def rowsAt {α : Type} (P : S64x512.Idx → α) (j : Dev nD) : S8x512.Idx → α := fun i =>
  P (Shape.pair (d := ![64, 512]) ⟨8 * j.val + (i 0).val, by have h : (i 0).val < 8 := (i 0).isLt; have h' : j.val < 8 := j.isLt; show _ < 64; omega⟩ (i 1))

/-- The `64 × 512` array whose rows `8 j` to `8 j + 7` are `X j`. -/
def stack {α : Type} (X : Dev nD → S8x512.Idx → α) : S64x512.Idx → α := fun i =>
  X (rowDev (i 0)) (Shape.pair (d := ![8, 512]) ⟨(i 0).val % 8, Nat.mod_lt _ (by decide)⟩ (i 1))

/-- The product of the activations and the first weights, negative entries cleared, times the second weights. -/
def core (x : FVec F S64x512 .f32) (w : FVec F S512x1024 .f32) (u : FVec F S1024x512 .f32) : FVec F S64x512 .f32 :=
  matmul dot_S64x1024_S1024x512_S64x512_1_0_0_1_n_n none
    (maximumf (matmul dot_S64x512_S512x1024_S64x1024_1_0_0_1_n_n none x w (constant S64x1024 .f32 0x00000000#32))
      (broadcast S64x1024 (Scalar.ofBits .f32 0x00000000#32))) u (constant S64x512 .f32 0x00000000#32)

theorem mlp_eq (x : FVec F S64x512 .f32) (w : Vec F S1x512x1024 .f32) (u : Vec F S1x1024x512 .f32) :
    mlp x w u = (shapeCast S1x64x512 (core x (shapeCast S512x1024 w shapeCasts_S1x512x1024_S512x1024)
      (shapeCast S1024x512 u shapeCasts_S1x1024x512_S1024x512)) shapeCasts_S64x512_S1x64x512 : FVec F S1x64x512 .f32) := rfl

theorem shapeCast_back {α : Type} {s t : Shape} (h : s.ShapeCasts t) (h' : t.ShapeCasts s) (x : s.Idx → α) :
    shapeCast s (shapeCast t x h) h' = x := by
  funext i
  unfold shapeCast
  rw [Shape.reshapeEquiv_reshapeEquiv, Shape.reshapeEquiv_self]

theorem shapeCast_self {α : Type} {s : Shape} (h : s.ShapeCasts s) (x : s.Idx → α) : shapeCast s x h = x := by
  funext i; unfold shapeCast; rw [Shape.reshapeEquiv_self]

/-! ## Reads and writes -/

/-- A chunk loaded is the chunk the transfers' view reads, behind one coordinate. -/
theorem read_sendV (o : Off) (f : S3x64x512.Idx → F .f32) :
    (sendV o).view.read (Elt F) f = shapeCast S8x512 (sendM.view.readAt (Elt F) (chR o).toLoadRect f) shapeCasts_S1x8x512_S8x512 := rfl
theorem read_xbV (o : Off) (f : S3x64x512.Idx → F .f32) :
    (xbV o).view.read (Elt F) f = shapeCast S8x512 (xbM.view.readAt (Elt F) (chR o).toLoadRect f) shapeCasts_S1x8x512_S8x512 := rfl
theorem read_commV (l : Fin 3) (k : Fin 7) (f : S3x7x8x512.Idx → F .f32) :
    (commV l k).view.read (Elt F) f = shapeCast S8x512 (commM.view.readAt (Elt F) (commR l k).toLoadRect f) shapeCasts_S1x1x8x512_S8x512 := rfl
theorem read_winV (l : Fin 3) (f : S3x512x1024.Idx → F .f32) :
    (winV l).view.read (Elt F) f = shapeCast S512x1024 (winM.view.readAt (Elt F) (winR l).toLoadRect f) shapeCasts_S1x512x1024_S512x1024 := rfl
theorem read_woutV (l : Fin 3) (f : S3x1024x512.Idx → F .f32) :
    (woutV l).view.read (Elt F) f = shapeCast S1024x512 (woutM.view.readAt (Elt F) (woutR l).toLoadRect f) shapeCasts_S1x1024x512_S1024x512 := rfl

/-- A chunk stored is read back by the transfers' view. -/
theorem read_xbV_store (o : Off) (f : S3x64x512.Idx → F .f32) (a : FVec F S8x512 .f32) :
    (xbV o).view.read (Elt F) ((xbM.access (chR o)).write (Elt F) f (shapeCast S1x8x512 a shapeCasts_S8x512_S1x8x512) Finset.univ) = a := by
  rw [read_xbV]
  show shapeCast S8x512 ((xbM.access (chR o)).read (Elt F) _) _ = a
  rw [View.read_write_univ]
  exact shapeCast_back _ _ a

/-- The place in the buffer of an element of a chunk, and of a layer. -/
theorem emb_chunk (l : Fin 3) (j : Dev nD) (i : S8x512.Idx) (p : S64x512.Idx) (h0 : (p 0).val = 8 * j.val + (i 0).val) (h1 : (p 1).val = (i 1).val) :
    (chR (chunk l j)).emb (Shape.reshapeEquiv shapeCasts_S1x8x512_S8x512 i) = (layerR l).emb (Shape.reshapeEquiv shapeCasts_S1x64x512_S64x512 p) := by
  have e1 : Shape.reshapeEquiv shapeCasts_S1x8x512_S8x512 i = (Fin.cons ⟨0, Nat.one_pos⟩ i : S1x8x512.Idx) := Shape.reshapeEquiv_cons_one (d := ![8, 512]) _ i
  have e2 : Shape.reshapeEquiv shapeCasts_S1x64x512_S64x512 p = (Fin.cons ⟨0, Nat.one_pos⟩ p : S1x64x512.Idx) := Shape.reshapeEquiv_cons_one (d := ![64, 512]) _ p
  rw [e1, e2]
  funext a
  apply Fin.ext
  fin_cases a
  · rfl
  · show 8 * j.val + 1 * (i 0).val = 0 + 1 * (p 0).val; omega
  · show 0 + 1 * (i 1).val = 0 + 1 * (p 1).val; omega

/-- A layer stored holds what was stored, at each place of the layer. -/
theorem store_layer_at (l : Fin 3) (f g : S3x64x512.Idx → F .f32) (w : FVec F S1x64x512 .f32)
    (hg : g = (sendM.access (layerR l)).write (Elt F) f w Finset.univ) (x : S1x64x512.Idx) : g ((layerR l).emb x) = w x := by
  have h : (sendM.access (layerR l)).read (Elt F) g = w := by subst hg; rw [View.read_write_univ]
  rw [← h]
  rfl

/-- A layer stored reads, chunk by chunk, the rows of what was stored. -/
theorem read_sendV_store (l : Fin 3) (j : Dev nD) (f : S3x64x512.Idx → F .f32) (P : FVec F S64x512 .f32) :
    (sendV (chunk l j)).view.read (Elt F)
      ((sendM.access (layerR l)).write (Elt F) f (shapeCast S1x64x512 P shapeCasts_S64x512_S1x64x512) Finset.univ) = rowsAt P j := by
  generalize hw : (shapeCast S1x64x512 P shapeCasts_S64x512_S1x64x512 : FVec F S1x64x512 .f32) = w
  have hP : shapeCast S64x512 w shapeCasts_S1x64x512_S64x512 = P := by rw [← hw]; exact shapeCast_back _ _ P
  generalize hgw : (sendM.access (layerR l)).write (Elt F) f w Finset.univ = g
  have hg := store_layer_at l f g w hgw.symm
  funext i
  have hi : (i 0).val < 8 := (i 0).isLt
  have hj : j.val < 8 := j.isLt
  show g ((chR (chunk l j)).emb (Shape.reshapeEquiv shapeCasts_S1x8x512_S8x512 i)) = _
  rw [emb_chunk l j i (Shape.pair (d := ![64, 512]) ⟨8 * j.val + (i 0).val, by show _ < 64; omega⟩ (i 1)) rfl rfl, hg, ← hP]
  rfl

/-- A layer loaded is the stack of its chunks. -/
theorem load_layer (l : Fin 3) (X : Dev nD → S8x512.Idx → F .f32) (f : S3x64x512.Idx → F .f32)
    (h : ∀ j, (xbV (chunk l j)).view.read (Elt F) f = X j) :
    shapeCast S64x512 (xbM.view.readAt (Elt F) (layerR l).toLoadRect f) shapeCasts_S1x64x512_S64x512 = stack X := by
  funext p
  have hp : (p 0).val < 64 := (p 0).isLt
  show f ((layerR l).emb (Shape.reshapeEquiv shapeCasts_S1x64x512_S64x512 p)) = _
  unfold stack
  rw [← h, ← emb_chunk l (rowDev (p 0)) (Shape.pair (d := ![8, 512]) ⟨(p 0).val % 8, Nat.mod_lt _ (by decide)⟩ (p 1)) p
    (by show (p 0).val = 8 * ((p 0).val / 8) + (p 0).val % 8; omega) rfl]
  rfl

end Cert.AllToAllMlp

end
-- ==== Proof.Protocol.lean ====
/-
The kernel's protocol as a rounds schedule: which cell each transfer and each signal completes on, what is handed over
there, what each device owes, and the level at which it waits; with the values every piece holds.
-/
module

public import proofs.«01_k».proof.Proof.Prog
public import proofs.«01_k».proof.Proof.Geometry
public import Idealize.ShloMosaic.Lib.Pipeline.Launch
public import Idealize.ShloMosaic.Lib.Pipeline.Kit
public import Idealize.ShloMosaic.Lib.Memref
public import Idealize.ShloMosaic.Lib.Tactic

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline library's copy and the protocol's, whose duties are numbered by hops -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices in their circle -/

/-- The device `k + 1` places before. -/
def back (d : Dev nD) (k : Fin 7) : Dev nD := ⟨(d.val + (7 - k.val)) % 8, Nat.mod_lt _ (by decide)⟩
theorem back_peer : ∀ (d : Dev nD) (k : Fin 7), back (peer d k) k = d := by decide +kernel
theorem peer_back : ∀ (d : Dev nD) (k : Fin 7), peer (back d k) k = d := by decide +kernel
/-- Going `k + 1` places on is going `rev k + 1` places back. -/
theorem peer_peer : ∀ (d : Dev nD) (k : Fin 7), peer (peer d k) k.rev = d := by decide +kernel

/-! ## Values -/

/-- The layer's weights on device `c`, as they are in memory at launch. -/
def wAt (l : Fin 3) (c : Dev nD) : FVec F S512x1024 .f32 := (winA l).view.read (Elt F) (m ((winA l).view.loc (c : Thread nD τ)))
def uAt (l : Fin 3) (c : Dev nD) : FVec F S1024x512 .f32 := (woutA l).view.read (Elt F) (m ((woutA l).view.loc (c : Thread nD τ)))

/-- The activations the launch stages on device `c`. -/
def xAt (c : Dev nD) : FVec F S64x512 .f32 :=
  (win0_0.blk (0 : Fin 1)).view.read (Elt F) (m ((c : Thread nD τ).loc main_arg0))

/-- Chunk `j` of the sum of the devices' partial results, added in the order device `j` adds them: its own first, then
    the one from each device before it. -/
def sumAt (P : Dev nD → FVec F S64x512 .f32) (j : Dev nD) : FVec F S8x512 .f32 :=
  hops.foldl (fun a k => addf a (rowsAt (P (back j k)) j)) (rowsAt (P j) j)

/-- A layer's result from the devices' activations. -/
def step (l : Fin 3) (x : Dev nD → FVec F S64x512 .f32) : FVec F S64x512 .f32 :=
  stack fun j => sumAt (fun c => core (x c) (wAt m l c) (uAt m l c)) j

/-- What enters each layer on device `c`. -/
def act : Fin 3 → Dev nD → FVec F S64x512 .f32
  | 0 => xAt m
  | 1 => fun _ => step m 0 (xAt m)
  | 2 => fun _ => step m 1 fun _ => step m 0 (xAt m)

/-- The layer's partial result on device `c`, and chunk `j` of their sum. -/
def part (l : Fin 3) (c : Dev nD) : FVec F S64x512 .f32 := core (act m l c) (wAt m l c) (uAt m l c)
def red (l : Fin 3) (j : Dev nD) : FVec F S8x512 .f32 := sumAt (part m l) j
/-- What the layer leaves on every device. -/
def res (l : Fin 3) : FVec F S64x512 .f32 := stack (red m l)

/-! ## Pieces of buffers -/

/-- A piece at contents nobody relies on. -/
def anyAt (ℓ : Loc nD τ sig) (S : Finset ℓ.ty.Idx) : sProp 𝕄 := iprop(∃ f : Buf (Elt F) ℓ, ℓ ↦[S]{fullShare} f)

omit [FloatOps F] in
instance anyAt_storable (ℓ : Loc nD τ sig) (S) : BI.Storable (upEmb : UEmb _ 𝕄) (anyAt (F := F) ℓ S) := by unfold anyAt; infer_instance

/-- What a view reads as `X` is held at some contents. -/
abbrev own (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

omit [FloatOps F] in
theorem own_any (c : Dev nD) {sp : Space} {s : Shape} {e : EltTy} (M : Memref sig .tc sp s e) (X : s.Idx → Elt F e) :
    own c M X ⊢ (anyAt (M.view.loc (c : Thread nD τ)) M.view.set : sProp 𝕄) := by
  unfold own owns anyAt
  iintro ⟨%f, -, H⟩
  iexists f
  iexact H

/-! ## The cells -/

/-- The kernel's own semaphores: the weight copies', and the transfers'. -/
abbrev J : Type := (Fin 3 × Fin 2) ⊕ (Fin 4 × Fin 3 × Fin 7)

abbrev osem : J → SemLoc sig
  | .inl (l, i) => .dma (wS l i)
  | .inr (t, l, k) => .dma (tS t l k)
/-- All of the protocol's: the runtime's barrier beside them. -/
abbrev csem : Option J → SemLoc sig
  | none => .reg barS
  | some j => osem j

theorem wS_val : ∀ (l : Fin 3) (i : Fin 2), (wS l i).val = 2 + 2 * l.val + i.val := by decide +kernel
theorem tS_val : ∀ (t : Fin 4) (l : Fin 3) (k : Fin 7), (tS t l k).val = 8 + 21 * t.val + 7 * l.val + k.val := by decide +kernel

theorem osem_dma (j : J) : ∃ s : DmaSem sig, osem j = .dma s ∧ 2 ≤ s.val := by
  rcases j with ⟨l, i⟩ | ⟨t, l, k⟩
  · exact ⟨_, rfl, by rw [wS_val]; omega⟩
  · exact ⟨_, rfl, by rw [tS_val]; omega⟩

theorem osem_inj : Function.Injective osem := by
  rintro (⟨l, i⟩ | ⟨t, l, k⟩) (⟨l', i'⟩ | ⟨t', l', k'⟩) h
  all_goals
    have h := congrArg Fin.val (SemLoc.dma.inj h)
    simp only [wS_val, tS_val] at h
  · rw [show l = l' from Fin.ext (by omega), show i = i' from Fin.ext (by omega)]
  · omega
  · omega
  · rw [show t = t' from Fin.ext (by omega), show l = l' from Fin.ext (by omega), show k = k' from Fin.ext (by omega)]

theorem csem_inj : Function.Injective csem := by
  rintro (_ | j) (_ | j') h
  · rfl
  · obtain ⟨s, hs, -⟩ := osem_dma j'; exact absurd (h.trans hs) (fun h => by cases h)
  · obtain ⟨s, hs, -⟩ := osem_dma j; exact absurd (hs.symm.trans h) (fun h => by cases h)
  · exact congrArg some (osem_inj h)

instance decJ : DecidableEq J := inferInstance
instance decCell : DecidableEq (Dev nD × Option J) := inferInstance

abbrev kcell (cj : Dev nD × Option J) : GSem nD τ sig := ((cj.1 : Thread nD τ), csem cj.2)

theorem kcell_inj : Function.Injective kcell := by
  rintro ⟨c, j⟩ ⟨c', j'⟩ h
  have h1 := congrArg Prod.fst h
  have h2 := congrArg Prod.snd h
  exact Prod.ext (congrArg (fun t : Thread nD τ => t.1) h1) (csem_inj h2)

open Classical in
/-- Which of the protocol's semaphores a semaphore is, if any. -/
def idx (s : SemLoc sig) : Option (Option J) := if h : ∃ j, csem j = s then some h.choose else none

theorem idx_csem (j : Option J) : idx (csem j) = some j := by
  have h : ∃ j', csem j' = csem j := ⟨j, rfl⟩
  unfold idx
  rw [dif_pos h]
  exact congrArg some (csem_inj h.choose_spec)

theorem idx_stage (s : DmaSem sig) (hs : s.val < 2) : idx (.dma s) = none := by
  unfold idx
  refine dif_neg ?_
  rintro ⟨_ | j, h⟩
  · cases h
  · obtain ⟨s', hs', h2⟩ := osem_dma j
    have := SemLoc.dma.inj (hs'.symm.trans h)
    subst this
    omega

/-! ## The amounts -/

/-- A view's credit is read off its shape. -/
theorem credit_eq {sp : Space} {s : Shape} {e : EltTy} (v : View sig .tc sp s e) : v.dmaCredit = RefSig.tileCredit s e := rfl

/-- The credit of a chunk, and of a layer's weights. -/
def N : ℕ := RefSig.tileCredit S8x512 .f32
def Nw : ℕ := RefSig.tileCredit S512x1024 .f32
def Nu : ℕ := RefSig.tileCredit S1024x512 .f32
theorem N_pos : 0 < N := RefSig.tileCredit_pos _ _ (Shape.numel_pos fun a => by fin_cases a <;> exact Nat.succ_pos _)
theorem Nw_pos : 0 < Nw := RefSig.tileCredit_pos _ _ (Shape.numel_pos fun a => by fin_cases a <;> exact Nat.succ_pos _)
theorem Nu_pos : 0 < Nu := RefSig.tileCredit_pos _ _ (Shape.numel_pos fun a => by fin_cases a <;> exact Nat.succ_pos _)

theorem credit_chunk {sp : Space} (v : View sig .tc sp S8x512 .f32) : v.dmaCredit = N := credit_eq v
theorem credit_w {sp : Space} (v : View sig .tc sp S512x1024 .f32) : v.dmaCredit = Nw := credit_eq v
theorem credit_u {sp : Space} (v : View sig .tc sp S1024x512 .f32) : v.dmaCredit = Nu := credit_eq v

def amt : Option J → ℕ
  | none => 1
  | some (.inl (_, 0)) => Nw
  | some (.inl (_, 1)) => Nu
  | some (.inr _) => N

theorem amt_pos (j : Option J) : 0 < amt j := by
  rcases j with _ | ⟨l, i⟩ | j
  · exact Nat.one_pos
  · fin_cases i
    · exact Nw_pos
    · exact Nu_pos
  · exact N_pos

/-- The duties of a cell's only round. -/
def dut : Option J → Finset (Fin 7)
  | none => Finset.univ
  | some _ => {0}

/-! ## What is handed over -/

/-- With its signal a device hands over, of every layer, the slot its peer's chunk lands in and the place of its peer's
    chunk of the next activations. -/
def barPay (c : Dev nD) (k : Fin 7) : sProp 𝕄 :=
  bigSep Finset.univ fun l : Fin 3 => iprop(anyAt ((peer c k : Thread nD τ).loc cc0_scratch3) (commS (l, k))
    ∗ anyAt ((peer c k : Thread nD τ).loc cc0_scratch4) (chS (chunk l c)))

/-- The weights' array at its launch contents. -/
def wArr (l : Fin 3) (c : Dev nD) : sProp 𝕄 :=
  (winA l).view.loc (c : Thread nD τ) ↦[(winA l).view.set]{fullShare} m ((winA l).view.loc (c : Thread nD τ))
def uArr (l : Fin 3) (c : Dev nD) : sProp 𝕄 :=
  (woutA l).view.loc (c : Thread nD τ) ↦[(woutA l).view.set]{fullShare} m ((woutA l).view.loc (c : Thread nD τ))

/-- One reader's share of the device's own chunk of the sum. -/
def lent (l : Fin 3) (c : Dev nD) (q : PosShare TreeShare) : sProp 𝕄 :=
  (xbV (chunk l c)).view.loc (c : Thread nD τ) ↦[(xbV (chunk l c)).view.set]{q} (xbV (chunk l c)).view.rep (red m l c)

/-- What the payer of a cell's duty hands to its owner. -/
def pay (c : Dev nD) : Option J → Fin 7 → sProp 𝕄
  | none, k => barPay c k
  | some (.inl (l, 0)), _ => iprop(own c (winV l) (wAt m l c) ∗ wArr m l c)
  | some (.inl (l, 1)), _ => iprop(own c (woutV l) (uAt m l c) ∗ uArr m l c)
  | some (.inr (0, l, k)), _ => anyAt ((sendV (chunk l (peer c k))).view.loc (c : Thread nD τ)) (sendV (chunk l (peer c k))).view.set
  | some (.inr (1, l, k)), _ => own c (commV l k) (rowsAt (part m l (back c k)) c)
  | some (.inr (2, l, k)), _ => lent m l c (shareTok fullShare 7 k)
  | some (.inr (3, l, k)), _ => own c (xbV (chunk l (back c k))) (red m l (back c k))

instance pay_storable (c : Dev nD) (j : Option J) (d : Fin 7) : BI.Storable (upEmb : UEmb _ 𝕄) (pay m c j d) := by
  rcases j with _ | ⟨l, i⟩ | ⟨t, l, k⟩
  · unfold pay barPay; infer_instance
  · fin_cases i
    · show BI.Storable upEmb iprop(own c (winV l) (wAt m l c) ∗ wArr m l c); unfold wArr; infer_instance
    · show BI.Storable upEmb iprop(own c (woutV l) (uAt m l c) ∗ uArr m l c); unfold uArr; infer_instance
  · fin_cases t
    · show BI.Storable upEmb (anyAt _ _); infer_instance
    · show BI.Storable upEmb (own c (commV l k) _); infer_instance
    · show BI.Storable upEmb (lent m l c _); unfold lent; infer_instance
    · show BI.Storable upEmb (own c (xbV _) _); infer_instance

/-! ## The schedule -/

/-- One round: each cell's duties, amount and payloads are its index's. -/
def sched : Rounds.Schedule (GSem nD τ sig) (Fin 7) 𝕄 where
  duties g r := if r = 0 then (match idx g.2 with | some j => dut j | none => ∅) else ∅
  unitless _ := False
  amount g _ _ := match idx g.2 with | some j => amt j | none => 1
  payload g _ d := match idx g.2 with | some j => pay m g.1.1 j d | none => iprop(emp)
  amount_pos g _ _ _ := by
    cases idx g.2 with
    | none => exact Nat.one_pos
    | some j => exact amt_pos j

instance sched_payload_storable (g : GSem nD τ sig) (r : ℕ) (d : Fin 7) :
    BI.Storable (upEmb : UEmb _ 𝕄) ((sched m).payload g r d) := by
  show BI.Storable upEmb (match idx g.2 with | some j => pay m g.1.1 j d | none => iprop(emp))
  cases idx g.2 with
  | none => infer_instance
  | some j => infer_instance

theorem duties_eq (c : Dev nD) (j : Option J) : (sched m).duties (kcell (c, j)) 0 = dut j := by
  show (if (0 : ℕ) = 0 then (match idx (csem j) with | some j => dut j | none => ∅) else ∅) = dut j
  rw [if_pos rfl, idx_csem]
theorem duties_later (g : GSem nD τ sig) : ∀ r, 1 ≤ r → (sched m).duties g r = ∅ := fun r hr => by
  show (if r = 0 then _ else _) = _
  exact if_neg (by omega)
theorem amount_eq (c : Dev nD) (j : Option J) (d : Fin 7) : (sched m).amount (kcell (c, j)) 0 d = amt j := by
  show (match idx (csem j) with | some j => amt j | none => 1) = amt j
  rw [idx_csem]
theorem payload_eq (c : Dev nD) (j : Option J) (d : Fin 7) : (sched m).payload (kcell (c, j)) 0 d = pay m c j d := by
  show (match idx (csem j) with | some j => pay m c j d | none => iprop(emp)) = pay m c j d
  rw [idx_csem]

theorem expect_dma (c : Dev nD) (j : J) : (sched m).expect (kcell (c, some j)) 0 = amt (some j) := by
  unfold Schedule.expect Schedule.amountOf
  rw [duties_eq]
  exact (Finset.sum_singleton _ _).trans (amount_eq m c (some j) 0)
theorem expect_bar (c : Dev nD) : (sched m).expect (kcell (c, none)) 0 = 7 := by
  unfold Schedule.expect Schedule.amountOf
  rw [duties_eq, Finset.sum_congr rfl fun d _ => amount_eq m c none d]
  rfl

/-- The payloads of a whole round. -/
theorem rest_dma (c : Dev nD) (j : J) :
    bigSep ((sched m).duties (kcell (c, some j)) 0 \ ∅) (fun d => (sched m).payload (kcell (c, some j)) 0 d) = pay m c (some j) 0 := by
  rw [Finset.sdiff_empty, duties_eq]
  exact bigSep_singleton.trans (payload_eq m c (some j) 0)
theorem rest_bar (c : Dev nD) :
    bigSep ((sched m).duties (kcell (c, none)) 0 \ ∅) (fun d => (sched m).payload (kcell (c, none)) 0 d) = bigSep Finset.univ fun k => barPay c k := by
  rw [Finset.sdiff_empty, duties_eq]
  exact bigSep_congr fun d _ => payload_eq m c none d

/-! ## Levels -/

/-- A barrier cell is at 1, a layer's scatter targets above it, its gather targets above those; the cells a device pays
    itself are at 0. -/
def lvJ : Option J → ℕ
  | none => 1
  | some (.inl _) => 0
  | some (.inr (0, _, _)) => 0
  | some (.inr (1, l, _)) => 2 + 2 * l.val
  | some (.inr (2, _, _)) => 0
  | some (.inr (3, l, _)) => 3 + 2 * l.val

def L (g : GSem nD τ sig) : Finset Unit := if g.1.2 = .tc then {()} else ∅
def lv (g : GSem nD τ sig) (_ : Unit) : ℕ := match idx g.2 with | some j => lvJ j | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (j : Option J) : lv (kcell (c, j)) () = lvJ j := by
  show (match idx (csem j) with | some j => lvJ j | none => 0) = lvJ j
  rw [idx_csem]

/-! ## What a device owes -/

/-- A payment to come: the cell, and the amount. -/
abbrev Ev : Type := (Dev nD × Option J) × ℕ

def owedL : List Ev → CellTallies nD τ sig Unit
  | [] => 0
  | e :: es => owedL es + tallyAt (kcell e.1) () e.2

def evBar (c : Dev nD) (k : Fin 7) : Ev := ((peer c k, none), 1)
def evRs (c : Dev nD) (l : Fin 3) (k : Fin 7) : Ev := ((peer c k, some (.inr (1, l, k))), N)
def evAg (c : Dev nD) (l : Fin 3) (k : Fin 7) : Ev := ((peer c k, some (.inr (3, l, k))), N)
/-- The payments after the handshake, in program order; -/
def evRest (c : Dev nD) : List (Fin 3) → List Ev
  | [] => []
  | l :: ls => hops.map (evRs c l) ++ (hops.map (evAg c l) ++ evRest c ls)
/-- and all of them. -/
def evAll (c : Dev nD) : List Ev := hops.map (evBar c) ++ evRest c layers

/-- Every payment to come is to a cell above level `b`. -/
def Above (b : ℕ) (es : List Ev) : Prop := ∀ e ∈ es, b < lvJ e.1.2

theorem Above.nil (b : ℕ) : Above b [] := fun _ h => absurd h (by simp)
theorem Above.append {b : ℕ} {es es' : List Ev} (h : Above b es) (h' : Above b es') : Above b (es ++ es') := fun e he =>
  (List.mem_append.mp he).elim (h e) (h' e)
theorem Above.mono {b b' : ℕ} {es : List Ev} (h : Above b' es) (hb : b ≤ b') : Above b es := fun e he => Nat.lt_of_le_of_lt hb (h e he)
theorem above_rs (c : Dev nD) (l : Fin 3) (ks : List (Fin 7)) : Above (1 + 2 * l.val) (ks.map (evRs c l)) := fun e he => by
  obtain ⟨k, -, rfl⟩ := List.mem_map.mp he
  show 1 + 2 * l.val < 2 + 2 * l.val
  omega
theorem above_ag (c : Dev nD) (l : Fin 3) (ks : List (Fin 7)) : Above (2 + 2 * l.val) (ks.map (evAg c l)) := fun e he => by
  obtain ⟨k, -, rfl⟩ := List.mem_map.mp he
  show 2 + 2 * l.val < 3 + 2 * l.val
  omega
theorem above_rest (c : Dev nD) (b : ℕ) : ∀ ls : List (Fin 3), (∀ l ∈ ls, b ≤ 1 + 2 * l.val) → Above b (evRest c ls)
  | [], _ => Above.nil b
  | l :: ls, h =>
    ((above_rs c l hops).mono (h l (by simp))).append
      (((above_ag c l hops).mono ((h l (by simp)).trans (by omega))).append (above_rest c b ls fun l' hl => h l' (by simp [hl])))

theorem owedL_pos {es : List Ev} {g : GSem nD τ sig} {u : Unit} (h : 0 < owedL es g u) : ∃ e ∈ es, g = kcell e.1 := by
  induction es with
  | nil => exact absurd h (Nat.lt_irrefl 0)
  | cons e es ih =>
    unfold owedL at h
    rw [Pi.add_apply, Finsupp.add_apply] at h
    by_cases h0 : 0 < owedL es g u
    · obtain ⟨e', he, hg⟩ := ih h0
      exact ⟨e', List.mem_cons_of_mem _ he, hg⟩
    · have h1 : 0 < tallyAt (kcell e.1) () e.2 g u := by omega
      rw [tallyAt_apply] at h1
      by_cases hc : g = kcell e.1 ∧ u = ()
      · exact ⟨e, List.mem_cons_self .., hc.1⟩
      · rw [if_neg hc] at h1; exact absurd h1 (Nat.lt_irrefl 0)

omit [FloatOps F] in
/-- A device may wait on a semaphore below every cell it still has to pay. -/
theorem mayWait_of (c : Dev nD) (s : SemLoc sig) (b : ℕ) (hs : lv ((c : Thread nD τ), s) () ≤ b) (es : List Ev) (h : Above b es) :
    (levAts L lv : sProp 𝕄) ⊢ MayWait (c : Thread nD τ) s () (owedL es) :=
  MayOwe.of_cut (L := L) (lev := lv) b (fun p hp => by rw [Finset.mem_singleton.mp hp, L_tc]; exact Finset.mem_singleton_self _)
    (fun g u hg => by obtain ⟨e, he, rfl⟩ := owedL_pos hg; rw [L_tc]; exact Finset.mem_singleton_self _)
    (fun p hp => by rw [Finset.mem_singleton.mp hp]; exact hs)
    (fun g u hg => by obtain ⟨e, he, rfl⟩ := owedL_pos hg; exact Nat.lt_of_lt_of_eq (h e he) (lv_kcell e.1.1 e.1.2).symm)

/-! ## The records every device shares -/

/-- The cells' invariants under the names the launch allocated them at, that every cell has begun, and the levels. -/
def records (K : Dev nD × Option J → ℕ) : sProp 𝕄 :=
  iprop((bigSep Finset.univ fun cj => cellInv ER (sched m) (K cj) (kcell cj)) ∗ (bigSep Finset.univ fun cj => reached ER (kcell cj) 0) ∗ levAts L lv)

instance records_persistent (K : Dev nD × Option J → ℕ) : BI.Persistent (records m K) := by unfold records; infer_instance

theorem inv_at (K : Dev nD × Option J → ℕ) (cj : Dev nD × Option J) : records m K ⊢ cellInv ER (sched m) (K cj) (kcell cj) := by
  unfold records
  iintro ⟨H, -, -⟩
  iapply (show iprop(bigSep Finset.univ fun cj => (cellInv ER (sched m) (K cj) (kcell cj) : sProp 𝕄)) ⊢ cellInv ER (sched m) (K cj) (kcell cj)
    from bigSep_elim (Finset.mem_univ cj)) $$ H
theorem reached_at (K : Dev nD × Option J → ℕ) (cj : Dev nD × Option J) : records m K ⊢ reached ER (kcell cj) 0 := by
  unfold records
  iintro ⟨-, H, -⟩
  iapply (show iprop(bigSep Finset.univ fun cj => (reached ER (kcell cj) 0 : sProp 𝕄)) ⊢ reached ER (kcell cj) 0
    from bigSep_elim (Finset.mem_univ cj)) $$ H
theorem levels_of (K : Dev nD × Option J → ℕ) : records m K ⊢ levAts L lv := by
  unfold records
  iintro ⟨-, -, H⟩
  iexact H

end Cert.AllToAllMlp

end
-- ==== Proof.Steps.lean ====
/-
The program's operations one by one: what each needs and what it leaves, stated with the layer and the hop as variables;
and the two loops.
-/
module

public import proofs.«01_k».proof.Proof.Protocol
public import Idealize.ShloMosaic.Lib.Pipeline.BigSepL

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Option J → ℕ) (c : Dev nD)

/-- A program's weakest precondition on device `c`'s TensorCore. -/
abbrev WP {α : Type} (p : KProg F α) (Q : α → sProp 𝕄) : sProp 𝕄 :=
  wp frame (wpE (defs₀ (F := F)) Variants.none (c : Thread nD τ) none) Set.univ p Q

/-- One part after another. -/
theorem WP_bind {α β : Type} (p : KProg F α) (k : α → KProg F β) (Q : β → sProp 𝕄) :
    WP c (p >>= k) Q = WP c p fun a => WP c (k a) Q := wp_bind _ _ _ _ _ _

theorem WP_pure {α : Type} (a : α) (Q : α → sProp 𝕄) : WP c (pure a) Q = iprop(|={Set.univ}=> Q a) := wp_ret _ _ _ _ _

/-- Device `c` owes the payments listed. -/
def owe (es : List Ev) : sProp 𝕄 := iprop(∃ W : Waits sig Unit, owes (c : Thread nD τ) (owedL es) W)

/-- The owner's place at the beginning of a cell, the right to pay a cell, the units a cell will receive. -/
abbrev at0 (j : Option J) : sProp 𝕄 := atPos ER (kcell (c, j)) 0 ∅ 0
abbrev tok (cj : Dev nD × Option J) (d : Fin 7) : sProp 𝕄 := dutyTok ER (kcell cj) 0 d
abbrev due (j : Option J) (n : ℕ) : sProp 𝕄 := cred (tallyAt (kcell (c, j)) () n)
/-- A cell closed: its counter is zero. -/
abbrev done (j : Option J) : sProp 𝕄 := semVal (kcell (c, j)) 0

/-! ## Loops -/

/-- A loop over a list, from its step: each member spends its `A` and leaves its `B`, along a state `S` of what is still
    to come. -/
theorem wp_seqL {ι : Type} (R : sProp 𝕄) [BI.Persistent R] (S : List ι → sProp 𝕄) (A B : ι → sProp 𝕄)
    (f : ι → KProg F PUnit)
    (h : ∀ i rest (Φ : PUnit → sProp 𝕄), iprop(R ∗ S (i :: rest) ∗ A i) ⊢ iprop(((S rest ∗ B i) -∗ Φ ⟨⟩) -∗ WP c (f i) Φ)) :
    ∀ (l : List ι) (Φ : PUnit → sProp 𝕄), iprop(R ∗ S l ∗ bigSepL l A) ⊢ iprop(((S [] ∗ bigSepL l B) -∗ Φ ⟨⟩) -∗ WP c (seqL f l) Φ) := by
  intro l
  induction l with
  | nil =>
    intro Φ
    show _ ⊢ iprop(_ -∗ WP c (pure ⟨⟩) Φ)
    rw [WP_pure]
    iintro ⟨-, HS, HA⟩ Hk
    imodintro
    iapply Hk
    isplitl [HS]; · iexact HS
    iexact HA
  | cons i l ih =>
    intro Φ
    show _ ⊢ iprop(_ -∗ WP c (f i >>= fun _ => seqL f l) Φ)
    rw [WP_bind, bigSepL_cons', bigSepL_cons']
    iintro ⟨#HR, HS, HA, HL⟩ Hk
    iapply (h i l _) $$ [HS HA]
    · isplitr; · iexact HR
      isplitl [HS] <;> iassumption
    iintro ⟨HS, HB⟩
    iapply (ih Φ) $$ [HS HL]
    · isplitr; · iexact HR
      isplitl [HS] <;> iassumption
    iintro ⟨HS, HL⟩
    iapply Hk
    isplitl [HS]; · iexact HS
    isplitl [HB] <;> iassumption

/-- The same, a value passed along: the step's value is `g`'s. -/
theorem wp_seqAcc {α : Type} {ι : Type} (R : sProp 𝕄) [BI.Persistent R] (S : List ι → sProp 𝕄) (A B : ι → sProp 𝕄)
    (f : ι → α → KProg F α) (g : α → ι → α)
    (h : ∀ i rest a (Φ : α → sProp 𝕄), iprop(R ∗ S (i :: rest) ∗ A i) ⊢ iprop(((S rest ∗ B i) -∗ Φ (g a i)) -∗ WP c (f i a) Φ)) :
    ∀ (l : List ι) (a : α) (Φ : α → sProp 𝕄),
      iprop(R ∗ S l ∗ bigSepL l A) ⊢ iprop(((S [] ∗ bigSepL l B) -∗ Φ (l.foldl g a)) -∗ WP c (seqAcc f l a) Φ) := by
  intro l
  induction l with
  | nil =>
    intro a Φ
    show _ ⊢ iprop(((S [] ∗ bigSepL [] B) -∗ Φ a) -∗ WP c (pure a) Φ)
    rw [WP_pure]
    iintro ⟨-, HS, HA⟩ Hk
    imodintro
    iapply Hk
    isplitl [HS]; · iexact HS
    iexact HA
  | cons i l ih =>
    intro a Φ
    show _ ⊢ iprop(((S [] ∗ bigSepL (i :: l) B) -∗ Φ (l.foldl g (g a i))) -∗ WP c (f i a >>= fun b => seqAcc f l b) Φ)
    rw [WP_bind, bigSepL_cons', bigSepL_cons']
    iintro ⟨#HR, HS, HA, HL⟩ Hk
    iapply (h i l a _) $$ [HS HA]
    · isplitr; · iexact HR
      isplitl [HS] <;> iassumption
    iintro ⟨HS, HB⟩
    iapply (ih (g a i) Φ) $$ [HS HL]
    · isplitr; · iexact HR
      isplitl [HS] <;> iassumption
    iintro ⟨HS, HL⟩
    iapply Hk
    isplitl [HS]; · iexact HS
    isplitl [HB] <;> iassumption

/-! ## Waits -/

/-- A wait on one of the device's own DMA cells, for all of it: the payload comes, and the cell is closed. -/
theorem wp_wait (j : J) (s : DmaSem sig) (hs : osem j = .dma s) (es : List Ev) (hab : Above (lvJ (some j)) es)
    {sp sp' : Space} {sh sh' : Shape} {e e' : EltTy} (src : Memref sig .tc sp sh e) (dst : Memref sig .tc sp' sh' e')
    (h₁ : src.view.WordExact) (h₂ : dst.view.WordExact) (hN : dst.view.dmaCredit = amt (some j)) (Φ : PUnit → sProp 𝕄) :
    iprop(records m K ∗ owe c es ∗ due c (some j) (amt (some j)) ∗ at0 c (some j))
      ⊢ iprop(((owe c es ∗ done c (some j) ∗ pay m c (some j) 0) -∗ Φ ⟨⟩) -∗ WP c (Prog.lift (.waitDma2 s src dst h₁ h₂)) Φ) := by
  have hg : kcell (c, some j) = ((c : Thread nD τ), .dma s) := by show ((c : Thread nD τ), osem j) = _; rw [hs]
  have he := expect_dma m c j
  have hr := rest_dma m c j
  have hl : lv ((c : Thread nD τ), .dma s) () ≤ lvJ (some j) := by rw [← hg, lv_kcell]
  have hI := inv_at m K (c, some j)
  have hcl : iprop(cellInv ER (sched m) (K (c, some j)) (kcell (c, some j)) ∗ atPos ER (kcell (c, some j)) (0 + 1) ∅ 0)
      ⊢ iprop(|={Set.univ}=> semVal (kcell (c, some j)) 0) := Rounds.cell_close ER (sched m) (g := kcell (c, some j)) (Es := Set.univ) (Set.mem_univ (K (c, some j))) (fun h => h) (R := 0 + 1) (duties_later m _)
  unfold due at0 done
  rw [hg] at he hr hI hcl ⊢
  rw [← hr]
  unfold owe Prog.lift
  iintro ⟨#HR, ⟨%W, HO⟩, Hc, Hat⟩ Hk
  iapply (Rounds.wp_wait_rest_token Variants.none ER (sched m) (c : Thread nD τ) none (κ := K (c, some j))
    (wpE_waitDma2_eq Variants.none (c : Thread nD τ) none Set.univ) (Set.mem_univ _) () (O := owedL es) (W := W) (R := 0) (m := 0) (T := ∅)
    (by rw [Nat.zero_add, he, hN])) $$ [Hc HO Hat]
  · isplitr; · iapply hI; iexact HR
    isplitl [Hc]; · rw [hN]; iexact Hc
    isplitl [HO]; · iexact HO
    isplitr
    · iapply (mayWait_of c (.dma s) _ hl es hab)
      iapply (levels_of m K); iexact HR
    iexact Hat
  iintro ⟨HO, Hat, -, Hpay⟩
  rw [wp_ret]
  imod hcl $$ [Hat] with Hz
  · isplitr; · iapply hI; iexact HR
    iexact Hat
  imodintro
  iapply Hk
  isplitl [HO]; · iexists _; iexact HO
  isplitl [Hz] <;> iassumption

/-- The wait on the device's barrier cell: every peer's slots come. -/
theorem wp_waitBar (es : List Ev) (hab : Above 1 es) (Φ : PUnit → sProp 𝕄) :
    iprop(records m K ∗ owe c es ∗ due c none 7 ∗ at0 c none)
      ⊢ iprop(((owe c es ∗ done c none ∗ bigSep Finset.univ fun k => barPay c k) -∗ Φ ⟨⟩) -∗ WP c (semWaitWord barS 7#32) Φ) := by
  have hl : lv ((c : Thread nD τ), .reg barS) () ≤ 1 := le_of_eq (lv_kcell c none)
  unfold owe due at0 done semWaitWord
  rw [← rest_bar m c]
  iintro ⟨#HR, ⟨%W, HO⟩, Hc, Hat⟩ Hk
  iapply (Rounds.wp_wait_rest_token Variants.none ER (sched m) (c : Thread nD τ) none (κ := K (c, none))
    (wpE_semWait_eq Variants.none (c : Thread nD τ) none Set.univ) (Set.mem_univ _) () (O := owedL es) (W := W) (R := 0) (m := 0) (T := ∅)
    (by rw [expect_bar]; decide)) $$ [Hc HO Hat]
  · isplitr; · iapply (inv_at m K (c, none)); iexact HR
    isplitl [Hc]; · iexact Hc
    isplitl [HO]; · iexact HO
    isplitr
    · iapply (mayWait_of c (.reg barS) _ hl es hab)
      iapply (levels_of m K); iexact HR
    iexact Hat
  iintro ⟨HO, Hat, -, Hpay⟩
  rw [wp_ret]
  imod (Rounds.cell_close ER (sched m) (g := kcell (c, none)) (Set.mem_univ (K (c, none))) (fun h => h) (R := 0 + 1) (duties_later m _)) $$ [Hat] with Hz
  · isplitr; · iapply (inv_at m K (c, none)); iexact HR
    iexact Hat
  imodintro
  iapply Hk
  isplitl [HO]; · iexists _; iexact HO
  isplitl [Hz] <;> iassumption

/-! ## The payloads, one kind at a time -/

theorem pay_bar (k : Fin 7) : pay m c none k = barPay c k := rfl
theorem pay_w (l : Fin 3) : pay m c (some (.inl (l, 0))) 0 = iprop(own c (winV l) (wAt m l c) ∗ wArr m l c) := rfl
theorem pay_u (l : Fin 3) : pay m c (some (.inl (l, 1))) 0 = iprop(own c (woutV l) (uAt m l c) ∗ uArr m l c) := rfl
theorem pay_sent (l : Fin 3) (k : Fin 7) : pay m c (some (.inr (0, l, k))) 0
    = anyAt ((sendV (chunk l (peer c k))).view.loc (c : Thread nD τ)) (sendV (chunk l (peer c k))).view.set := rfl
theorem pay_rs (l : Fin 3) (k : Fin 7) : pay m c (some (.inr (1, l, k))) 0 = own c (commV l k) (rowsAt (part m l (back c k)) c) := rfl
theorem pay_rs_peer (l : Fin 3) (k : Fin 7) :
    pay m (peer c k) (some (.inr (1, l, k))) 0 = own (peer c k) (commV l k) (rowsAt (part m l c) (peer c k)) := by
  rw [pay_rs, back_peer]
theorem pay_lent (l : Fin 3) (k : Fin 7) : pay m c (some (.inr (2, l, k))) 0 = lent m l c (shareTok fullShare 7 k) := rfl
theorem pay_ag (l : Fin 3) (k : Fin 7) : pay m c (some (.inr (3, l, k))) 0 = own c (xbV (chunk l (back c k))) (red m l (back c k)) := rfl
theorem pay_ag_peer (l : Fin 3) (k : Fin 7) :
    pay m (peer c k) (some (.inr (3, l, k))) 0 = own (peer c k) (xbV (chunk l c)) (red m l c) := by
  rw [pay_ag, back_peer]

/-- A block just written is held with the value written. -/
theorem own_write {sp : Space} {sh : Shape} {e : EltTy} (c : Dev nD) (M : Memref sig .tc sp sh e) (fd : M.view.ty.Contents (Elt F))
    (v X : sh.Idx → Elt F e) (h : v = X) :
    (M.view.loc (c : Thread nD τ) ↦[M.view.set]{fullShare} M.view.write (Elt F) fd v Finset.univ) ⊢ own c M X := by
  subst h
  unfold own owns
  iintro H
  iexists _
  isplitr
  · ipureintro; exact View.read_write_univ (Val := Elt F) (v := M.view) fd v
  iexact H

/-! ## Signals and transfers -/

/-- The signal to the `k`-th peer, handing over what that peer will write to here. -/
theorem wp_sig (k : Fin 7) (es : List Ev) (Φ : PUnit → sProp 𝕄) :
    iprop(records m K ∗ owe c (evBar c k :: es) ∗ tok (peer c k, none) k.rev ∗ barPay (peer c k) k.rev)
      ⊢ iprop((owe c es -∗ Φ ⟨⟩) -∗ WP c (semSignalWord (peer c k) barS 1#32) Φ) := by
  unfold owe tok semSignalWord
  iintro ⟨#HR, ⟨%W, HO⟩, Ht, Hp⟩ Hk
  iapply (Rounds.wp_signal Variants.none ER (sched m) (c : Thread nD τ) none (dst := (peer c k : Thread nD τ)) (κ := K (peer c k, none)) (r := 0)
      (d := k.rev) (k' := 1) (by rw [duties_eq m (peer c k) none]; exact Finset.mem_univ _) (amount_eq m (peer c k) none k.rev) () (owedL es) (W := W) rfl)
    $$ [HO Ht Hp]
  · isplitr; · iapply (inv_at m K (peer c k, none)); iexact HR
    isplitl [HO]; · iexact HO
    isplitl [Ht]; · iexact Ht
    isplitl [Hp]
    · rw [payload_eq m (peer c k) none, pay_bar]; iexact Hp
    iapply (reached_at m K (peer c k, none)); iexact HR
  iintro HO
  rw [wp_ret]
  imodintro
  iapply Hk
  iexists _; iexact HO

/-- The two weight copies of a layer started. -/
theorem wp_startW (l : Fin 3) (Φ : PUnit → sProp 𝕄) :
    iprop(records m K ∗ anyAt ((c : Thread nD τ).loc cc0_scratch0) (winSt l) ∗ wArr m l c ∗ tok (c, some (.inl (l, 0))) 0
        ∗ anyAt ((c : Thread nD τ).loc cc0_scratch1) (woutSt l) ∗ uArr m l c ∗ tok (c, some (.inl (l, 1))) 0)
      ⊢ iprop(((due c (some (.inl (l, 0))) Nw ∗ due c (some (.inl (l, 1))) Nu) -∗ Φ ⟨⟩) -∗ WP c (startW l) Φ) := by
  unfold startW tok due wArr uArr anyAt
  rw [← set_winV, ← set_woutV]
  simp only [Prog.lift, Prog.bind_op, Prog.bind_ret]
  iintro ⟨#HR, ⟨%f, Hd⟩, Hs, Ht, ⟨%g, Hd'⟩, Hs', Ht'⟩ Hk
  iapply (Rounds.wp_copy_pointsTo Variants.none ER (sched m) (c : Thread nD τ) none (κ := K (c, some (.inl (l, 0)))) (r := 0) (d := 0) (fd := f)
    (by rw [duties_eq m c (some (.inl (l, 0)))]; exact Finset.mem_singleton_self _) () Nw (show (winV l).view.amount (.dma (wS l 0)) = Nw from credit_w _) (amount_eq m c (some (.inl (l, 0))) 0)
    (by
      rw [payload_eq m c (some (.inl (l, 0)))]
      rw [pay_w]
      exact sep_mono (own_write c (winV l) f _ _ rfl) .rfl)) $$ [Hd Hs Ht]
  · isplitr; · iapply (inv_at m K (c, some (.inl (l, 0)))); iexact HR
    isplitl [Hs]; · iexact Hs
    isplitl [Hd]; · iexact Hd
    isplitl [Ht]; · iexact Ht
    iapply (reached_at m K (c, some (.inl (l, 0)))); iexact HR
  iintro Hc
  iapply (Rounds.wp_copy_pointsTo Variants.none ER (sched m) (c : Thread nD τ) none (κ := K (c, some (.inl (l, 1)))) (r := 0) (d := 0) (fd := g)
    (by rw [duties_eq m c (some (.inl (l, 1)))]; exact Finset.mem_singleton_self _) () Nu (show (woutV l).view.amount (.dma (wS l 1)) = Nu from credit_u _) (amount_eq m c (some (.inl (l, 1))) 0)
    (by
      rw [payload_eq m c (some (.inl (l, 1)))]
      rw [pay_u]
      exact sep_mono (own_write c (woutV l) g _ _ rfl) .rfl)) $$ [Hd' Hs' Ht']
  · isplitr; · iapply (inv_at m K (c, some (.inl (l, 1)))); iexact HR
    isplitl [Hs']; · iexact Hs'
    isplitl [Hd']; · iexact Hd'
    isplitl [Ht']; · iexact Ht'
    iapply (reached_at m K (c, some (.inl (l, 1)))); iexact HR
  iintro Hc'
  rw [wp_ret]
  imodintro
  iapply Hk
  isplitl [Hc] <;> iassumption

/-- The scatter transfer to the `k`-th peer. -/
theorem wp_rs (l : Fin 3) (k : Fin 7) (es : List Ev) (Φ : PUnit → sProp 𝕄) :
    iprop(records m K ∗ owe c (evRs c l k :: es) ∗ own c (sendV (chunk l (peer c k))) (rowsAt (part m l c) (peer c k))
        ∗ anyAt ((peer c k : Thread nD τ).loc cc0_scratch3) (commS (l, k))
        ∗ tok (c, some (.inr (0, l, k))) 0 ∗ tok (peer c k, some (.inr (1, l, k))) 0)
      ⊢ iprop(((owe c es ∗ due c (some (.inr (0, l, k))) N) -∗ Φ ⟨⟩) -∗ WP c (rsStart (plain c) l k) Φ) := by
  unfold rsStart owe tok due own owns anyAt Prog.lift
  rw [← set_commV]
  iintro ⟨#HR, ⟨%W, HO⟩, ⟨%fs, %hfs, Hs⟩, ⟨%fd, Hd⟩, Ht, Ht'⟩ Hk
  iapply (Rounds.wp_send_pointsTo Variants.none ER (sched m) (c : Thread nD τ) none (c' := (peer c k : Thread nD τ))
    (κ₁ := K (c, some (.inr (0, l, k)))) (κ₂ := K (peer c k, some (.inr (1, l, k))))
    (r₁ := 0) (r₂ := 0) (d₁ := 0) (d₂ := 0) (fs := fs) (fd := fd)
    (by rw [duties_eq m c (some (.inr (0, l, k)))]; exact Finset.mem_singleton_self _)
    (by rw [duties_eq m (peer c k) (some (.inr (1, l, k)))]; exact Finset.mem_singleton_self _)
    () () N (show (commV l k).view.amount (.dma (tS 1 l k)) = N from credit_chunk _) (amount_eq m c (some (.inr (0, l, k))) 0) (amount_eq m (peer c k) (some (.inr (1, l, k))) 0) (owedL es) rfl (W := W)
    (by
      rw [payload_eq m c (some (.inr (0, l, k)))]
      rw [pay_sent]
      unfold anyAt
      iintro H
      iexists fs
      iexact H)
    (by
      rw [payload_eq m (peer c k) (some (.inr (1, l, k))), pay_rs_peer]
      exact own_write (peer c k) (commV l k) fd _ _ hfs)) $$ [HO Hs Hd Ht Ht']
  · isplitr; · iapply (inv_at m K (c, some (.inr (0, l, k)))); iexact HR
    isplitr; · iapply (inv_at m K (peer c k, some (.inr (1, l, k)))); iexact HR
    isplitl [Hs]; · iexact Hs
    isplitl [Hd]; · iexact Hd
    isplitl [HO]; · iexact HO
    isplitl [Ht]; · iexact Ht
    isplitr; · iapply (reached_at m K (c, some (.inr (0, l, k)))); iexact HR
    isplitl [Ht']; · iexact Ht'
    iapply (reached_at m K (peer c k, some (.inr (1, l, k)))); iexact HR
  iintro ⟨Hc, HO⟩
  rw [wp_ret]
  imodintro
  iapply Hk
  isplitl [HO]; · iexists _; iexact HO
  iexact Hc

/-- The gather transfer to the `k`-th peer. -/
theorem wp_ag (l : Fin 3) (k : Fin 7) (es : List Ev) (Φ : PUnit → sProp 𝕄) :
    iprop(records m K ∗ owe c (evAg c l k :: es) ∗ lent m l c (shareTok fullShare 7 k)
        ∗ anyAt ((peer c k : Thread nD τ).loc cc0_scratch4) (chS (chunk l c))
        ∗ tok (c, some (.inr (2, l, k))) 0 ∗ tok (peer c k, some (.inr (3, l, k))) 0)
      ⊢ iprop(((owe c es ∗ due c (some (.inr (2, l, k))) N) -∗ Φ ⟨⟩) -∗ WP c (agStart (plain c) l k) Φ) := by
  unfold agStart owe tok due lent anyAt Prog.lift
  rw [← set_xbV]
  iintro ⟨#HR, ⟨%W, HO⟩, Hs, ⟨%fd, Hd⟩, Ht, Ht'⟩ Hk
  iapply (Rounds.wp_send_pointsTo Variants.none ER (sched m) (c : Thread nD τ) none (c' := (peer c k : Thread nD τ))
    (κ₁ := K (c, some (.inr (2, l, k)))) (κ₂ := K (peer c k, some (.inr (3, l, k))))
    (r₁ := 0) (r₂ := 0) (d₁ := 0) (d₂ := 0) (fs := (xbV (chunk l c)).view.rep (red m l c)) (fd := fd) (q := shareTok fullShare 7 k)
    (by rw [duties_eq m c (some (.inr (2, l, k)))]; exact Finset.mem_singleton_self _)
    (by rw [duties_eq m (peer c k) (some (.inr (3, l, k)))]; exact Finset.mem_singleton_self _)
    () () N (show (xbV (chunk l c)).view.amount (.dma (tS 3 l k)) = N from credit_chunk _) (amount_eq m c (some (.inr (2, l, k))) 0) (amount_eq m (peer c k) (some (.inr (3, l, k))) 0) (owedL es) rfl (W := W)
    (by
      rw [payload_eq m c (some (.inr (2, l, k)))]
      rw [pay_lent]
      unfold lent
      exact .rfl)
    (by
      rw [payload_eq m (peer c k) (some (.inr (3, l, k))), pay_ag_peer]
      exact own_write (peer c k) (xbV (chunk l c)) fd _ _ (View.read_rep _ _))) $$ [HO Hs Hd Ht Ht']
  · isplitr; · iapply (inv_at m K (c, some (.inr (2, l, k)))); iexact HR
    isplitr; · iapply (inv_at m K (peer c k, some (.inr (3, l, k)))); iexact HR
    isplitl [Hs]; · iexact Hs
    isplitl [Hd]; · iexact Hd
    isplitl [HO]; · iexact HO
    isplitl [Ht]; · iexact Ht
    isplitr; · iapply (reached_at m K (c, some (.inr (2, l, k)))); iexact HR
    isplitl [Ht']; · iexact Ht'
    iapply (reached_at m K (peer c k, some (.inr (3, l, k)))); iexact HR
  iintro ⟨Hc, HO⟩
  rw [wp_ret]
  imodintro
  iapply Hk
  isplitl [HO]; · iexists _; iexact HO
  iexact Hc

end Cert.AllToAllMlp

end
-- ==== Proof.Layer.lean ====
/-
A layer of the program: the parts one after the other, then the whole layer.

-/
module

public import proofs.«01_k».proof.Proof.Steps
public import Idealize.ShloMosaic.Lib.Pipeline.BigSepL
public import Idealize.ShloMosaic.Lib.VecWindow

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Option J → ℕ) (c : Dev nD)

variable (m : (ℓ : Loc nD τ sig) → Buf (Elt F) ℓ) (K : Dev nD × Option J → ℕ) (c : Dev nD)

/-! ## Separating conjunctions over the hops and over the devices -/

theorem hop_eq (Φ : Fin 7 → sProp 𝕄) : bigSep Finset.univ Φ = bigSepL hops Φ :=
  bigSep_univ_eq_bigSepL hops (by decide) (by decide) Φ

theorem hop_zip (A B : Fin 7 → sProp 𝕄) : iprop(bigSepL hops A ∗ bigSepL hops B) ⊢ bigSepL hops fun k => iprop(A k ∗ B k) := by
  rw [← hop_eq, ← hop_eq, ← hop_eq]
  exact Entails.of_eq (bigSep_sep' _ _ _).symm

theorem hop_unzip (A B : Fin 7 → sProp 𝕄) : (bigSepL hops fun k => iprop(A k ∗ B k)) ⊢ iprop(bigSepL hops A ∗ bigSepL hops B) := by
  rw [← hop_eq, ← hop_eq, ← hop_eq]
  exact Entails.of_eq (bigSep_sep' _ _ _)

theorem peer_inj : Function.Injective (peer c) := by revert c; decide
theorem back_inj : Function.Injective (back c) := by revert c; decide
theorem univ_peer : (Finset.univ : Finset (Dev nD)) = insert c (Finset.univ.map ⟨peer c, peer_inj c⟩) := by revert c; decide
theorem univ_back : (Finset.univ : Finset (Dev nD)) = insert c (Finset.univ.map ⟨back c, back_inj c⟩) := by revert c; decide
theorem not_mem_peer : c ∉ Finset.univ.map ⟨peer c, peer_inj c⟩ := by revert c; decide
theorem not_mem_back : c ∉ Finset.univ.map ⟨back c, back_inj c⟩ := by revert c; decide

/-- All devices are this one and its peers. -/
theorem dev_peer (Φ : Dev nD → sProp 𝕄) : bigSep Finset.univ Φ = iprop(Φ c ∗ bigSepL hops fun k => Φ (peer c k)) := by
  rw [univ_peer c, bigSep_insert (not_mem_peer c), bigSep_map, hop_eq]
  rfl

/-- All devices are this one and those of which it is a peer. -/
theorem dev_back (Φ : Dev nD → sProp 𝕄) : bigSep Finset.univ Φ = iprop(Φ c ∗ bigSepL hops fun k => Φ (back c k)) := by
  rw [univ_back c, bigSep_insert (not_mem_back c), bigSep_map, hop_eq]
  rfl

/-- Parts held with any contents make a whole held with some contents. -/
theorem any_join {I : Type} [DecidableEq I] (ℓ : Loc nD τ sig) (s : Finset I) (A : I → Finset (Idx ℓ))
    (hd : ∀ i ∈ s, ∀ j ∈ s, i ≠ j → Disjoint (A i) (A j)) : (bigSep s fun i => anyAt (F := F) ℓ (A i)) ⊢ anyAt ℓ (s.biUnion A) := by
  unfold anyAt
  iintro H
  ihave H := (BI.bigSep_exists_pi s fun i (f : Buf (Elt F) ℓ) => (ℓ ↦[A i]{fullShare} f : sProp 𝕄)) $$ H
  icases H with ⟨%fs, H⟩
  ihave H := (pointsTo_biUnion_join s A fs (fun _ => Classical.choice (Elt.nonempty F _)) hd) $$ H
  icases H with ⟨%g, -, H⟩
  iexists g
  iexact H

theorem any_of (ℓ : Loc nD τ sig) (S : Finset (Idx ℓ)) (f : Buf (Elt F) ℓ) :
    (ℓ ↦[S]{fullShare} f : sProp 𝕄) ⊢ iprop(∃ f : Buf (Elt F) ℓ, ℓ ↦[S]{fullShare} f) := by
  iintro H
  iexists f
  iexact H

/-- A whole held with any contents splits in its parts. -/
theorem any_split {I : Type} [DecidableEq I] (ℓ : Loc nD τ sig) (s : Finset I) (A : I → Finset (Idx ℓ))
    (hd : ∀ i ∈ s, ∀ j ∈ s, i ≠ j → Disjoint (A i) (A j)) : anyAt ℓ (s.biUnion A) ⊢ bigSep s fun i => anyAt (F := F) ℓ (A i) := by
  unfold anyAt
  iintro ⟨%f, H⟩
  have h : (ℓ ↦[s.biUnion A]{fullShare} f : sProp 𝕄) ⊢ bigSep s fun i => iprop(∃ f : Buf (Elt F) ℓ, ℓ ↦[A i]{fullShare} f) :=
    (Entails.of_eq (pointsTo_biUnion s A hd)).trans (bigSep_mono fun i _ => any_of ℓ (A i) f)
  iapply h
  iexact H

/-- A chunk of `x_buf` held with its value, by the elements it covers. -/
theorem own_xbV (o : Off) (X : S8x512.Idx → F .f32) :
    own c (xbV o) X = (iprop(∃ f : Buf (Elt F) ((c : Thread nD τ).loc cc0_scratch4), ⌜(xbV o).view.read (Elt F) f = X⌝
          ∗ ((c : Thread nD τ).loc cc0_scratch4 ↦[chS o]{fullShare} f)) : sProp 𝕄) := by
  unfold own owns
  rw [← set_xbV]

/-- Chunks held with their values make the layer, whose load is the stack of the values. -/
theorem layer_join (l : Fin 3) (X : Dev nD → S8x512.Idx → F .f32) :
    (bigSep Finset.univ fun j : Dev nD => own c (xbV (chunk l j)) (X j))
      ⊢ iprop(∃ f : Buf (Elt F) ((c : Thread nD τ).loc cc0_scratch4), ⌜∀ j, (xbV (chunk l j)).view.read (Elt F) f = X j⌝
          ∗ ((c : Thread nD τ).loc cc0_scratch4 ↦[layS l]{fullShare} f)) := by
  simp only [own_xbV]
  rw [layS_eq l]
  iintro H
  ihave H := (BI.bigSep_exists_pi Finset.univ fun (j : Dev nD) (f : Buf (Elt F) ((c : Thread nD τ).loc cc0_scratch4)) =>
    (iprop(⌜(xbV (chunk l j)).view.read (Elt F) f = X j⌝ ∗ ((c : Thread nD τ).loc cc0_scratch4 ↦[chS (chunk l j)]{fullShare} f)) : sProp 𝕄)) $$ H
  icases H with ⟨%fs, H⟩
  ihave H := (bigSep_pure_sep Finset.univ (fun j => (xbV (chunk l j)).view.read (Elt F) (fs j) = X j)
    (fun j => ((c : Thread nD τ).loc cc0_scratch4 ↦[chS (chunk l j)]{fullShare} fs j : sProp 𝕄))) $$ H
  icases H with ⟨%hX, H⟩
  ihave H := (pointsTo_biUnion_join Finset.univ (fun j => chS (chunk l j)) fs (fun _ => Classical.choice (Elt.nonempty F _))
    (fun i _ j _ h => chS_disj l i j h)) $$ H
  icases H with ⟨%g, %hg, H⟩
  iexists g
  isplitr
  · ipureintro
    intro j
    rw [← hX j (Finset.mem_univ j)]
    exact View.read_congr (fun i hi => hg j (Finset.mem_univ j) i (by rw [set_xbV] at hi; exact hi))
  iexact H

/-! ## Loads and stores -/

section
variable {sh : Shape} {e : EltTy} (M : Memref sig .tc .vmem sh e) (r : Rect sh)

theorem wp_ld (hl : M.view.LoadsAt r.toLoadRect) (S : Finset (Idx ((M.access r).loc (c : Thread nD τ)))) (f : Buf (Elt F) ((M.access r).loc (c : Thread nD τ)))
    (hS : (M.access r).set ⊆ S) (Φ : (r.shape.Idx → Elt F e) → sProp 𝕄) :
    ((M.access r).loc (c : Thread nD τ) ↦[S]{fullShare} f)
      ⊢ iprop((((M.access r).loc (c : Thread nD τ) ↦[S]{fullShare} f) -∗ Φ ((M.access r).read (Elt F) f)) -∗ WP c (Prog.lift (.load M r.toLoadRect hl)) Φ) := by
  unfold Prog.lift
  iintro H Hk
  iapply (wp_load_rect Variants.none (c : Thread nD τ) none Set.univ (m := M) (r := r) hS) $$ H
  iintro H
  rw [wp_ret]
  imodintro
  iapply Hk
  iexact H

theorem wp_st (w : r.shape.Idx → Elt F e) (hx : (M.access r).Stores Finset.univ) (hp) (S : Finset (Idx ((M.access r).loc (c : Thread nD τ))))
    (f : Buf (Elt F) ((M.access r).loc (c : Thread nD τ)))
    (hS : (M.access r).set ⊆ S) (Φ : PUnit → sProp 𝕄) :
    ((M.access r).loc (c : Thread nD τ) ↦[S]{fullShare} f)
      ⊢ iprop((((M.access r).loc (c : Thread nD τ) ↦[S]{fullShare} (M.access r).write (Elt F) f w Finset.univ) -∗ Φ ⟨⟩)
        -∗ WP c (Prog.lift (.store M r w Finset.univ hx hp)) Φ) := by
  unfold Prog.lift
  iintro H Hk
  iapply (wp_store Variants.none (c : Thread nD τ) none Set.univ (m := M) (r := r) (Mk := Finset.univ) hS) $$ H
  iintro H
  rw [wp_ret]
  imodintro
  iapply Hk
  iexact H

end

/-! ## The parts of a layer -/

/-- A chunk of `send_buf` held with its value, by the elements it covers. -/
theorem own_sendV (o : Off) (X : S8x512.Idx → F .f32) :
    own c (sendV o) X = (iprop(∃ f : Buf (Elt F) ((c : Thread nD τ).loc cc0_scratch2), ⌜(sendV o).view.read (Elt F) f = X⌝
          ∗ ((c : Thread nD τ).loc cc0_scratch2 ↦[chS o]{fullShare} f)) : sProp 𝕄) := by
  unfold own owns
  rw [← set_sendV]

theorem own_sendV_of (l : Fin 3) (j : Dev nD) (f : Buf (Elt F) ((c : Thread nD τ).loc cc0_scratch2)) (X : S8x512.Idx → F .f32)
    (h : (sendV (chunk l j)).view.read (Elt F) f = X) :
    ((c : Thread nD τ).loc cc0_scratch2 ↦[chS (chunk l j)]{fullShare} f : sProp 𝕄) ⊢ own c (sendV (chunk l j)) X := by
  rw [own_sendV]
  iintro H
  iexists f
  isplitr; · ipureintro; exact h
  iexact H

/-- A layer's block stored is its chunks, each with its rows. -/
theorem send_split (l : Fin 3) (f : Buf (Elt F) ((c : Thread nD τ).loc cc0_scratch2)) (P : FVec F S64x512 .f32)
    (h : ∀ j, (sendV (chunk l j)).view.read (Elt F) f = rowsAt P j) :
    ((c : Thread nD τ).loc cc0_scratch2 ↦[layS l]{fullShare} f : sProp 𝕄)
      ⊢ bigSep Finset.univ fun j : Dev nD => own c (sendV (chunk l j)) (rowsAt P j) := by
  rw [layS_eq l]
  exact (Entails.of_eq (pointsTo_biUnion Finset.univ _ fun i _ j _ h => chS_disj l i j h)).trans
    (bigSep_mono fun j _ => own_sendV_of c l j f _ (h j))

/-- The layer's partial result, from the weights awaited: its chunks lie in `send_buf`, the weights' buffers come back. -/
theorem wp_compute (l : Fin 3) (es : List Ev) (hab : Above 0 es) (x : FVec F S64x512 .f32) (hx : x = act m l c) (Φ : PUnit → sProp 𝕄) :
    iprop(records m K ∗ owe c es ∗ (due c (some (.inl (l, 0))) Nw ∗ due c (some (.inl (l, 1))) Nu)
        ∗ (at0 c (some (.inl (l, 0))) ∗ at0 c (some (.inl (l, 1)))) ∗ anyAt ((c : Thread nD τ).loc cc0_scratch2) (layS l))
      ⊢ iprop(((owe c es ∗ (done c (some (.inl (l, 0))) ∗ done c (some (.inl (l, 1))))
          ∗ (anyAt ((c : Thread nD τ).loc cc0_scratch0) (winSt l) ∗ wArr m l c) ∗ (anyAt ((c : Thread nD τ).loc cc0_scratch1) (woutSt l) ∗ uArr m l c)
          ∗ bigSep Finset.univ fun j : Dev nD => own c (sendV (chunk l j)) (rowsAt (part m l c) j)) -∗ Φ ⟨⟩) -∗ WP c (compute l x) Φ) := by
  unfold compute anyAt
  iintro ⟨#HR, HO, ⟨Hc, Hc'⟩, ⟨Ha, Ha'⟩, ⟨%f, Hs⟩⟩ Hk
  rw [WP_bind]
  iapply (wp_wait m K c (.inl (l, 0)) (wS l 0) rfl es hab _ _ _ _ (credit_w _) _) $$ [HO Hc Ha]
  · isplitr; · iexact HR
    isplitl [HO]; · iexact HO
    isplitl [Hc]; · iexact Hc
    iexact Ha
  rw [pay_w]
  unfold own owns
  rw [set_winV]
  iintro ⟨HO, Hd, ⟨⟨%fw, %hw, Hw⟩, HA⟩⟩
  rw [WP_bind]
  iapply (wp_ld c winM (winR l) _ (winSt l) fw (View.set_slice_whole _ _).subset _) $$ Hw
  iintro Hw
  rw [WP_bind]
  iapply (wp_wait m K c (.inl (l, 1)) (wS l 1) rfl es hab _ _ _ _ (credit_u _) _) $$ [HO Hc' Ha']
  · isplitr; · iexact HR
    isplitl [HO]; · iexact HO
    isplitl [Hc']; · iexact Hc'
    iexact Ha'
  rw [pay_u]
  unfold own owns
  rw [set_woutV]
  iintro ⟨HO, Hd', ⟨⟨%fu, %hu, Hu⟩, HA'⟩⟩
  rw [WP_bind]
  iapply (wp_ld c woutM (woutR l) _ (woutSt l) fu (View.set_slice_whole _ _).subset _) $$ Hu
  iintro Hu
  rw [WP_bind]
  iapply (wp_ld c sendM (layerR l) _ (layS l) f (View.set_slice_whole _ _).subset _) $$ Hs
  iintro Hs
  iapply (wp_st c sendM (layerR l) _ _ _ (layS l) f (View.set_slice_whole _ _).subset _) $$ Hs
  iintro Hs
  iapply Hk
  isplitl [HO]; · iexact HO
  isplitl [Hd Hd']; · isplitl [Hd] <;> iassumption
  isplitl [Hw HA]
  · isplitl [Hw]; · iexists fw; iexact Hw
    iexact HA
  isplitl [Hu HA']
  · isplitl [Hu]; · iexists fu; iexact Hu
    iexact HA'
  iapply (send_split c l _ (part m l c) ?_) $$ Hs
  intro j
  have hm : mlp x ((winM.access (winR l)).read (Elt F) fw) ((woutM.access (woutR l)).read (Elt F) fu)
      = shapeCast S1x64x512 (part m l c) shapeCasts_S64x512_S1x64x512 := by
    rw [hx, mlp_eq]
    exact congrArg (fun P => shapeCast S1x64x512 P shapeCasts_S64x512_S1x64x512)
      (show core (act m l c) _ _ = core (act m l c) _ _ from congrArg₂ (core (act m l c)) hw hu)
  rw [hm]
  exact read_sendV_store l j f (part m l c)

/-- One landed chunk awaited and added. -/
theorem wp_rsTake (l : Fin 3) (es : List Ev) (hab : Above (2 + 2 * l.val) es) (k : Fin 7) (a : FVec F S8x512 .f32) (Φ : FVec F S8x512 .f32 → sProp 𝕄) :
    iprop(records m K ∗ owe c es ∗ (due c (some (.inr (1, l, k))) N ∗ at0 c (some (.inr (1, l, k)))))
      ⊢ iprop(((owe c es ∗ (done c (some (.inr (1, l, k))) ∗ anyAt ((c : Thread nD τ).loc cc0_scratch3) (commS (l, k))))
        -∗ Φ (addf a (rowsAt (part m l (back c k)) c))) -∗ WP c (rsTake (plain c) l k a) Φ) := by
  unfold rsTake
  iintro ⟨#HR, HO, ⟨Hc, Ha⟩⟩ Hk
  rw [WP_bind]
  iapply (wp_wait m K c (.inr (1, l, k)) (tS 1 l k) rfl es hab _ _ _ _ (credit_chunk _) _) $$ [HO Hc Ha]
  · isplitr; · iexact HR
    isplitl [HO]; · iexact HO
    isplitl [Hc]; · iexact Hc
    iexact Ha
  rw [pay_rs]
  unfold own owns
  rw [set_commV]
  iintro ⟨HO, Hd, ⟨%f, %hf, Hp⟩⟩
  rw [WP_bind]
  iapply (wp_ld c commM (commR l k) _ (commS (l, k)) f (View.set_slice_whole _ _).subset _) $$ Hp
  iintro Hp
  rw [WP_pure]
  imodintro
  have hv : addf a (rowsAt (part m l (back c k)) c) = addChunk a ((commM.access (commR l k)).read (Elt F) f) := by rw [← hf]; rfl
  rw [hv]
  iapply Hk
  isplitl [HO]; · iexact HO
  isplitl [Hd]; · iexact Hd
  unfold anyAt
  iexists f
  iexact Hp

theorem lent_of (l : Fin 3) (g : Buf (Elt F) ((c : Thread nD τ).loc cc0_scratch4)) (h : (xbV (chunk l c)).view.read (Elt F) g = red m l c) :
    ((c : Thread nD τ).loc cc0_scratch4 ↦[chS (chunk l c)]{fullShare} g : sProp 𝕄) ⊢ lent m l c fullShare := by
  unfold lent
  rw [← set_xbV]
  exact pointsTo_rep_of_read (c : Thread nD τ) (xbV (chunk l c)) g fullShare (red m l c) h

theorem own_of_lent (l : Fin 3) : lent m l c fullShare ⊢ own c (xbV (chunk l c)) (red m l c) := by
  unfold lent own owns
  iintro H
  iexists _
  isplitr
  · ipureintro; exact View.read_rep (Val := Elt F) (xbV (chunk l c)).view (red m l c)
  iexact H

/-- The device's own chunk of the sum, left in `x_buf`. -/
theorem wp_reduce (l : Fin 3) (es : List Ev) (hab : Above (2 + 2 * l.val) es) (Φ : PUnit → sProp 𝕄) :
    iprop(records m K ∗ owe c es ∗ own c (sendV (chunk l c)) (rowsAt (part m l c) c)
        ∗ (bigSepL hops fun k => iprop(due c (some (.inr (1, l, k))) N ∗ at0 c (some (.inr (1, l, k)))))
        ∗ anyAt ((c : Thread nD τ).loc cc0_scratch4) (chS (chunk l c)))
      ⊢ iprop(((owe c es ∗ anyAt ((c : Thread nD τ).loc cc0_scratch2) (chS (chunk l c))
        ∗ (bigSepL hops fun k => iprop(done c (some (.inr (1, l, k))) ∗ anyAt ((c : Thread nD τ).loc cc0_scratch3) (commS (l, k))))
        ∗ lent m l c fullShare) -∗ Φ ⟨⟩) -∗ WP c (reduce (plain c) l) Φ) := by
  unfold reduce
  rw [own_sendV]
  have hany : (anyAt (F := F) ((c : Thread nD τ).loc cc0_scratch4) (chS (chunk l c)))
    = iprop(∃ g : Buf (Elt F) ((c : Thread nD τ).loc cc0_scratch4), (c : Thread nD τ).loc cc0_scratch4 ↦[chS (chunk l c)]{fullShare} g) := rfl
  rw [hany]
  iintro ⟨#HR, HO, ⟨%f, %hf, Hs⟩, HL, ⟨%g, Hx⟩⟩ Hk
  rw [WP_bind]
  iapply (wp_ld c sendM (chR (chunk l c)) _ (chS (chunk l c)) f (View.set_slice_whole _ _).subset _) $$ Hs
  iintro Hs
  rw [WP_bind]
  iapply (wp_seqAcc c (records m K) (fun _ => owe c es) (fun k => iprop(due c (some (.inr (1, l, k))) N ∗ at0 c (some (.inr (1, l, k)))))
    (fun k => iprop(done c (some (.inr (1, l, k))) ∗ anyAt ((c : Thread nD τ).loc cc0_scratch3) (commS (l, k))))
    (rsTake (plain c) l) (fun a k => addf a (rowsAt (part m l (back c k)) c)) (fun k _ a Φ => wp_rsTake m K c l es hab k a Φ) hops _ _) $$ [HO HL]
  · isplitr; · iexact HR
    isplitl [HO] <;> iassumption
  iintro ⟨HO, HL⟩
  rw [WP_bind]
  iapply (wp_ld c xbM (chR (chunk l c)) _ (chS (chunk l c)) g (View.set_slice_whole _ _).subset _) $$ Hx
  iintro Hx
  iapply (wp_st c xbM (chR (chunk l c)) _ _ _ (chS (chunk l c)) g (View.set_slice_whole _ _).subset _) $$ Hx
  iintro Hx
  iapply Hk
  isplitl [HO]; · iexact HO
  isplitl [Hs]; · unfold anyAt; iexists f; iexact Hs
  isplitl [HL]; · iexact HL
  have h : (xbV (chunk l c)).view.read (Elt F) ((xbM.access (chR (chunk l c))).write (Elt F) g (shapeCast S1x8x512
      (hops.foldl (fun a k => addf a (rowsAt (part m l (back c k)) c))
        (shapeCast S8x512 ((sendM.access (chR (chunk l c))).read (Elt F) f) shapeCasts_S1x8x512_S8x512)) shapeCasts_S8x512_S1x8x512) Finset.univ) = red m l c :=
    (read_xbV_store (chunk l c) g _).trans (congrArg (fun a => hops.foldl (fun a k => addf a (rowsAt (part m l (back c k)) c)) a) hf)
  iapply (lent_of m c l _ h) $$ Hx

/-- One gathered chunk awaited. -/
theorem wp_agTake (l : Fin 3) (es : List Ev) (hab : Above (3 + 2 * l.val) es) (k : Fin 7) (Φ : PUnit → sProp 𝕄) :
    iprop(records m K ∗ owe c es ∗ (due c (some (.inr (3, l, k))) N ∗ at0 c (some (.inr (3, l, k)))))
      ⊢ iprop(((owe c es ∗ (done c (some (.inr (3, l, k))) ∗ own c (xbV (chunk l (back c k))) (red m l (back c k))))
        -∗ Φ ⟨⟩) -∗ WP c (agTake (plain c) l k) Φ) := by
  unfold agTake
  iintro ⟨#HR, HO, ⟨Hc, Ha⟩⟩ Hk
  iapply (wp_wait m K c (.inr (3, l, k)) (tS 3 l k) rfl es hab _ _ _ _ (credit_chunk _) _) $$ [HO Hc Ha]
  · isplitr; · iexact HR
    isplitl [HO]; · iexact HO
    isplitl [Hc]; · iexact Hc
    iexact Ha
  rw [pay_ag]
  iexact Hk

/-- The two transfers issued to one peer awaited: what they read comes back. -/
theorem wp_drain (l : Fin 3) (es : List Ev) (hab : Above 0 es) (k : Fin 7) (Φ : PUnit → sProp 𝕄) :
    iprop(records m K ∗ owe c es ∗ ((due c (some (.inr (0, l, k))) N ∗ at0 c (some (.inr (0, l, k))))
        ∗ (due c (some (.inr (2, l, k))) N ∗ at0 c (some (.inr (2, l, k))))))
      ⊢ iprop(((owe c es ∗ ((done c (some (.inr (0, l, k))) ∗ done c (some (.inr (2, l, k))))
        ∗ (anyAt ((c : Thread nD τ).loc cc0_scratch2) (chS (chunk l (peer c k))) ∗ lent m l c (shareTok fullShare 7 k))))
        -∗ Φ ⟨⟩) -∗ WP c (drain (plain c) l k) Φ) := by
  unfold drain
  iintro ⟨#HR, HO, ⟨⟨Hc, Ha⟩, ⟨Hc', Ha'⟩⟩⟩ Hk
  rw [WP_bind]
  iapply (wp_wait m K c (.inr (0, l, k)) (tS 0 l k) rfl es hab _ _ _ _ (credit_chunk _) _) $$ [HO Hc Ha]
  · isplitr; · iexact HR
    isplitl [HO]; · iexact HO
    isplitl [Hc]; · iexact Hc
    iexact Ha
  rw [pay_sent, set_sendV]
  iintro ⟨HO, Hd, Hs⟩
  iapply (wp_wait m K c (.inr (2, l, k)) (tS 2 l k) rfl es hab _ _ _ _ (credit_chunk _) _) $$ [HO Hc' Ha']
  · isplitr; · iexact HR
    isplitl [HO]; · iexact HO
    isplitl [Hc']; · iexact Hc'
    iexact Ha'
  rw [pay_lent]
  iintro ⟨HO, Hd', Hl⟩
  iapply Hk
  isplitl [HO]; · iexact HO
  isplitl [Hd Hd']; · isplitl [Hd] <;> iassumption
  isplitl [Hs] <;> iassumption

/-! ## The whole layer -/

/-- What a layer starts from. -/
def layIn (l : Fin 3) : sProp 𝕄 :=
  iprop((due c (some (.inl (l, 0))) Nw ∗ due c (some (.inl (l, 1))) Nu) ∗ (at0 c (some (.inl (l, 0))) ∗ at0 c (some (.inl (l, 1))))
    ∗ anyAt ((c : Thread nD τ).loc cc0_scratch2) (layS l) ∗ anyAt ((c : Thread nD τ).loc cc0_scratch4) (chS (chunk l c))
    ∗ (bigSepL hops fun k => iprop(anyAt ((peer c k : Thread nD τ).loc cc0_scratch3) (commS (l, k))
        ∗ tok (c, some (.inr (0, l, k))) 0 ∗ tok (peer c k, some (.inr (1, l, k))) 0))
    ∗ (bigSepL hops fun k => iprop(due c (some (.inr (1, l, k))) N ∗ at0 c (some (.inr (1, l, k)))))
    ∗ (bigSepL hops fun k => iprop(anyAt ((peer c k : Thread nD τ).loc cc0_scratch4) (chS (chunk l c))
        ∗ tok (c, some (.inr (2, l, k))) 0 ∗ tok (peer c k, some (.inr (3, l, k))) 0))
    ∗ (bigSepL hops fun k => iprop(due c (some (.inr (3, l, k))) N ∗ at0 c (some (.inr (3, l, k)))))
    ∗ (bigSepL hops fun k => at0 c (some (.inr (0, l, k)))) ∗ (bigSepL hops fun k => at0 c (some (.inr (2, l, k)))))

/-- What a layer leaves: its cells closed, its slots of the buffers and the weights back. -/
def layOut (l : Fin 3) : sProp 𝕄 :=
  iprop((done c (some (.inl (l, 0))) ∗ done c (some (.inl (l, 1))))
    ∗ (anyAt ((c : Thread nD τ).loc cc0_scratch0) (winSt l) ∗ wArr m l c) ∗ (anyAt ((c : Thread nD τ).loc cc0_scratch1) (woutSt l) ∗ uArr m l c)
    ∗ anyAt ((c : Thread nD τ).loc cc0_scratch2) (layS l) ∗ anyAt ((c : Thread nD τ).loc cc0_scratch4) (layS l)
    ∗ (bigSepL hops fun k => iprop(done c (some (.inr (1, l, k))) ∗ anyAt ((c : Thread nD τ).loc cc0_scratch3) (commS (l, k))))
    ∗ (bigSepL hops fun k => done c (some (.inr (3, l, k))))
    ∗ (bigSepL hops fun k => iprop(done c (some (.inr (0, l, k))) ∗ done c (some (.inr (2, l, k))))))

/-- A chunk lent in shares, and the shares together again. -/
theorem lent_split (l : Fin 3) :
    lent m l c fullShare ⊢ iprop(lent m l c (shareDrop fullShare 7) ∗ bigSepL hops fun k => lent m l c (shareTok fullShare 7 k)) := by
  rw [← hop_eq]
  unfold lent
  exact Idealize.ShloMosaic.Transfers.pointsTo_toks_split fullShare 7

theorem lent_join (l : Fin 3) :
    iprop(lent m l c (shareDrop fullShare 7) ∗ bigSepL hops fun k => lent m l c (shareTok fullShare 7 k)) ⊢ lent m l c fullShare := by
  rw [← hop_eq]
  unfold lent
  exact Idealize.ShloMosaic.Transfers.pointsTo_toks_join fullShare 7

/-- The own chunk and the peers' chunks of `send_buf` are the layer. -/
theorem send_join (l : Fin 3) :
    iprop(anyAt ((c : Thread nD τ).loc cc0_scratch2) (chS (chunk l c))
      ∗ bigSepL hops fun k => anyAt (F := F) ((c : Thread nD τ).loc cc0_scratch2) (chS (chunk l (peer c k)))) ⊢ anyAt ((c : Thread nD τ).loc cc0_scratch2) (layS l) := by
  rw [← dev_peer c fun j => anyAt ((c : Thread nD τ).loc cc0_scratch2) (chS (chunk l j)), layS_eq l]
  exact any_join _ _ _ fun i _ j _ h => chS_disj l i j h

/-- A layer: from the activations it starts with to those it ends with. -/
theorem wp_layer (l : Fin 3) (ls : List (Fin 3)) (hls : ∀ l' ∈ ls, l.val < l'.val) (x : FVec F S64x512 .f32) (hx : x = act m l c)
    (Φ : FVec F S64x512 .f32 → sProp 𝕄) :
    iprop(records m K ∗ owe c (evRest c (l :: ls)) ∗ layIn c l)
      ⊢ iprop(((owe c (evRest c ls) ∗ layOut m c l) -∗ Φ (res m l)) -∗ WP c (layer (plain c) l x) Φ) := by
  have ab0 : ∀ ks : List (Fin 3), Above 0 (evRest c ks) := fun ks => above_rest c 0 ks fun _ _ => Nat.zero_le _
  have ab2 : Above (2 + 2 * l.val) (hops.map (evAg c l) ++ evRest c ls) :=
    (above_ag c l hops).append (above_rest c _ ls fun l' h => by have := hls l' h; omega)
  have ab3 : Above (3 + 2 * l.val) (evRest c ls) := above_rest c _ ls fun l' h => by have := hls l' h; omega
  unfold layer layIn
  iintro ⟨#HR, HO, Hdw, Haw, Hs, Hx, HA, HB, HC, HD, HE, HG⟩ Hk
  rw [WP_bind]
  iapply (wp_compute m K c l _ (ab0 (l :: ls)) x hx _) $$ [HO Hdw Haw Hs]
  · isplitr; · iexact HR
    isplitl [HO]; · iexact HO
    isplitl [Hdw]; · iexact Hdw
    isplitl [Haw] <;> iassumption
  rw [dev_peer c fun j => own c (sendV (chunk l j)) (rowsAt (part m l c) j)]
  iintro ⟨HO, Hdone, Hw, Hu, Hown, Hsend⟩
  rw [WP_bind]
  iapply (wp_seqL c (records m K) (fun rest => owe c (rest.map (evRs c l) ++ (hops.map (evAg c l) ++ evRest c ls))) _
    (fun k => due c (some (.inr (0, l, k))) N) (rsStart (plain c) l) (fun k rest Φ => wp_rs m K c l k _ Φ) hops _) $$ [HO Hsend HA]
  · isplitr; · iexact HR
    isplitl [HO]; · iexact HO
    iapply (hop_zip (fun k => own c (sendV (chunk l (peer c k))) (rowsAt (part m l c) (peer c k))) _)
    isplitl [Hsend]; · iexact Hsend
    iexact HA
  iintro ⟨HO, Hrs⟩
  rw [WP_bind]
  iapply (wp_reduce m K c l _ ab2 _) $$ [HO Hown HB Hx]
  · isplitr; · iexact HR
    isplitl [HO]; · iexact HO
    isplitl [Hown]; · iexact Hown
    isplitl [HB] <;> iassumption
  iintro ⟨HO, Hs, HB, Hl⟩
  ihave Hl := (lent_split m c l) $$ Hl
  icases Hl with ⟨Hdrop, Hl⟩
  rw [WP_bind]
  iapply (wp_seqL c (records m K) (fun rest => owe c (rest.map (evAg c l) ++ evRest c ls)) _
    (fun k => due c (some (.inr (2, l, k))) N) (agStart (plain c) l) (fun k rest Φ => wp_ag m K c l k _ Φ) hops _) $$ [HO Hl HC]
  · isplitr; · iexact HR
    isplitl [HO]; · iexact HO
    iapply (hop_zip (fun k => lent m l c (shareTok fullShare 7 k)) _)
    isplitl [Hl]; · iexact Hl
    iexact HC
  iintro ⟨HO, Hag⟩
  rw [WP_bind]
  iapply (wp_seqL c (records m K) (fun _ => owe c (evRest c ls)) _ _ (agTake (plain c) l) (fun k rest Φ => wp_agTake m K c l _ ab3 k Φ) hops _) $$ [HO HD]
  · isplitr; · iexact HR
    isplitl [HO]; · iexact HO
    iexact HD
  iintro ⟨HO, HD⟩
  rw [WP_bind]
  iapply (wp_seqL c (records m K) (fun _ => owe c (evRest c ls)) _ _ (drain (plain c) l) (fun k rest Φ => wp_drain m K c l _ (ab0 ls) k Φ) hops _) $$ [HO Hrs HE Hag HG]
  · isplitr; · iexact HR
    isplitl [HO]; · iexact HO
    iapply (hop_zip (fun k => iprop(due c (some (.inr (0, l, k))) N ∗ at0 c (some (.inr (0, l, k)))))
      (fun k => iprop(due c (some (.inr (2, l, k))) N ∗ at0 c (some (.inr (2, l, k))))))
    isplitl [Hrs HE]
    · iapply (hop_zip (fun k => due c (some (.inr (0, l, k))) N) (fun k => at0 c (some (.inr (0, l, k)))))
      isplitl [Hrs]; · iexact Hrs
      iexact HE
    · iapply (hop_zip (fun k => due c (some (.inr (2, l, k))) N) (fun k => at0 c (some (.inr (2, l, k)))))
      isplitl [Hag]; · iexact Hag
      iexact HG
  iintro ⟨HO, HE⟩
  ihave HE := (hop_unzip (fun k => iprop(done c (some (.inr (0, l, k))) ∗ done c (some (.inr (2, l, k)))))
    (fun k => iprop(anyAt ((c : Thread nD τ).loc cc0_scratch2) (chS (chunk l (peer c k))) ∗ lent m l c (shareTok fullShare 7 k)))) $$ HE
  icases HE with ⟨HE, Hback⟩
  ihave Hback := (hop_unzip (fun k => anyAt ((c : Thread nD τ).loc cc0_scratch2) (chS (chunk l (peer c k))))
    (fun k => lent m l c (shareTok fullShare 7 k))) $$ Hback
  icases Hback with ⟨Hsend, Hl⟩
  ihave HD := (hop_unzip (fun k => done c (some (.inr (3, l, k)))) (fun k => own c (xbV (chunk l (back c k))) (red m l (back c k)))) $$ HD
  icases HD with ⟨HD, Hgot⟩
  ihave Hx := (layer_join c l (red m l)) $$ [Hdrop Hl Hgot]
  · rw [dev_back c fun j => own c (xbV (chunk l j)) (red m l j)]
    isplitl [Hdrop Hl]
    · iapply (own_of_lent m c l)
      iapply (lent_join m c l)
      isplitl [Hdrop] <;> iassumption
    iexact Hgot
  icases Hx with ⟨%f, %hf, Hx⟩
  rw [WP_bind]
  iapply (wp_ld c xbM (layerR l) _ (layS l) f (View.set_slice_whole _ _).subset _) $$ Hx
  iintro Hx
  rw [WP_pure]
  imodintro
  have hv : shapeCast S64x512 ((xbM.access (layerR l)).read (Elt F) f) shapeCasts_S1x64x512_S64x512 = res m l := load_layer l (red m l) f hf
  rw [hv]
  iapply Hk
  isplitl [HO]; · iexact HO
  unfold layOut
  isplitl [Hdone]; · iexact Hdone
  isplitl [Hw]; · iexact Hw
  isplitl [Hu]; · iexact Hu
  isplitl [Hs Hsend]
  · iapply (send_join c l)
    isplitl [Hs] <;> iassumption
  isplitl [Hx]
  · unfold anyAt
    iexists f
    iexact Hx
  isplitl [HB]; · iexact HB
  isplitl [HD] <;> iassumption

end Cert.AllToAllMlp

end
-- ==== Proof.Body.lean ====
/-
The body: what it starts from, what it leaves, and its run.

-/
module

public import proofs.«01_k».proof.Proof.Layer
public import Idealize.ShloMosaic.Lib.Pipeline.BigSepL
public import Idealize.ShloMosaic.Lib.VecWindow

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Option J → ℕ) (c : Dev nD)

theorem lay_eq (Φ : Fin 3 → sProp 𝕄) : bigSep Finset.univ Φ = bigSepL layers Φ :=
  bigSep_univ_eq_bigSepL layers (by decide) (by decide) Φ

/-! ## The buffers dealt out -/

theorem slots_split : anyAt ((c : Thread nD τ).loc cc0_scratch3) Finset.univ
    ⊢ bigSep Finset.univ fun lk : Fin 3 × Fin 7 => anyAt (F := F) ((c : Thread nD τ).loc cc0_scratch3) (commS lk) := by
  have h := any_split (F := F) ((c : Thread nD τ).loc cc0_scratch3) (Finset.univ : Finset (Fin 3 × Fin 7)) commS fun i _ j _ h => commS_disj i j h
  rwa [← univ_commS] at h
theorem slots_join : (bigSep Finset.univ fun lk : Fin 3 × Fin 7 => anyAt (F := F) ((c : Thread nD τ).loc cc0_scratch3) (commS lk))
    ⊢ anyAt ((c : Thread nD τ).loc cc0_scratch3) Finset.univ := by
  have h := any_join (F := F) ((c : Thread nD τ).loc cc0_scratch3) (Finset.univ : Finset (Fin 3 × Fin 7)) commS fun i _ j _ h => commS_disj i j h
  rwa [← univ_commS] at h
theorem win_split : anyAt ((c : Thread nD τ).loc cc0_scratch0) Finset.univ
    ⊢ bigSep Finset.univ fun l : Fin 3 => anyAt (F := F) ((c : Thread nD τ).loc cc0_scratch0) (winSt l) := by
  have h := any_split (F := F) ((c : Thread nD τ).loc cc0_scratch0) (Finset.univ : Finset (Fin 3)) winSt fun i _ j _ h => winSt_disj i j h
  rwa [← univ_winSt] at h
theorem win_join : (bigSep Finset.univ fun l : Fin 3 => anyAt (F := F) ((c : Thread nD τ).loc cc0_scratch0) (winSt l))
    ⊢ anyAt ((c : Thread nD τ).loc cc0_scratch0) Finset.univ := by
  have h := any_join (F := F) ((c : Thread nD τ).loc cc0_scratch0) (Finset.univ : Finset (Fin 3)) winSt fun i _ j _ h => winSt_disj i j h
  rwa [← univ_winSt] at h
theorem wout_split : anyAt ((c : Thread nD τ).loc cc0_scratch1) Finset.univ
    ⊢ bigSep Finset.univ fun l : Fin 3 => anyAt (F := F) ((c : Thread nD τ).loc cc0_scratch1) (woutSt l) := by
  have h := any_split (F := F) ((c : Thread nD τ).loc cc0_scratch1) (Finset.univ : Finset (Fin 3)) woutSt fun i _ j _ h => woutSt_disj i j h
  rwa [← univ_woutSt] at h
theorem wout_join : (bigSep Finset.univ fun l : Fin 3 => anyAt (F := F) ((c : Thread nD τ).loc cc0_scratch1) (woutSt l))
    ⊢ anyAt ((c : Thread nD τ).loc cc0_scratch1) Finset.univ := by
  have h := any_join (F := F) ((c : Thread nD τ).loc cc0_scratch1) (Finset.univ : Finset (Fin 3)) woutSt fun i _ j _ h => woutSt_disj i j h
  rwa [← univ_woutSt] at h
theorem send_split_any : anyAt ((c : Thread nD τ).loc cc0_scratch2) Finset.univ
    ⊢ bigSep Finset.univ fun l : Fin 3 => anyAt (F := F) ((c : Thread nD τ).loc cc0_scratch2) (layS l) := by
  have h := any_split (F := F) ((c : Thread nD τ).loc cc0_scratch2) (Finset.univ : Finset (Fin 3)) layS fun i _ j _ h => layS_disj i j h
  rwa [← univ_layS] at h
theorem send_join_any : (bigSep Finset.univ fun l : Fin 3 => anyAt (F := F) ((c : Thread nD τ).loc cc0_scratch2) (layS l))
    ⊢ anyAt ((c : Thread nD τ).loc cc0_scratch2) Finset.univ := by
  have h := any_join (F := F) ((c : Thread nD τ).loc cc0_scratch2) (Finset.univ : Finset (Fin 3)) layS fun i _ j _ h => layS_disj i j h
  rwa [← univ_layS] at h
theorem xb_split_any : anyAt ((c : Thread nD τ).loc cc0_scratch4) Finset.univ
    ⊢ bigSep Finset.univ fun l : Fin 3 => anyAt (F := F) ((c : Thread nD τ).loc cc0_scratch4) (layS l) := by
  have h := any_split (F := F) ((c : Thread nD τ).loc cc0_scratch4) (Finset.univ : Finset (Fin 3)) layS fun i _ j _ h => layS_disj i j h
  rwa [← univ_layS] at h
theorem xb_join_any : (bigSep Finset.univ fun l : Fin 3 => anyAt (F := F) ((c : Thread nD τ).loc cc0_scratch4) (layS l))
    ⊢ anyAt ((c : Thread nD τ).loc cc0_scratch4) Finset.univ := by
  have h := any_join (F := F) ((c : Thread nD τ).loc cc0_scratch4) (Finset.univ : Finset (Fin 3)) layS fun i _ j _ h => layS_disj i j h
  rwa [← univ_layS] at h

/-- A layer of `x_buf` is the device's own chunk and its peers'. -/
theorem xb_lay_split (l : Fin 3) : anyAt ((c : Thread nD τ).loc cc0_scratch4) (layS l)
    ⊢ iprop(anyAt ((c : Thread nD τ).loc cc0_scratch4) (chS (chunk l c))
      ∗ bigSep Finset.univ fun k : Fin 7 => anyAt (F := F) ((c : Thread nD τ).loc cc0_scratch4) (chS (chunk l (peer c k)))) := by
  rw [hop_eq, ← dev_peer c fun j => anyAt ((c : Thread nD τ).loc cc0_scratch4) (chS (chunk l j)), layS_eq l]
  exact any_split _ _ _ fun i _ j _ h => chS_disj l i j h

theorem rev_eq (Φ : Fin 7 → sProp 𝕄) : (bigSep Finset.univ fun k : Fin 7 => Φ k.rev) = bigSep Finset.univ Φ :=
  (bigSep_univ_equiv Fin.revPerm Φ).symm

/-- What the device hands to its `k`-th peer lies on the device. -/
theorem barPay_peer (k : Fin 7) : barPay (F := F) (peer c k) k.rev
    = bigSep Finset.univ fun l : Fin 3 => iprop(anyAt ((c : Thread nD τ).loc cc0_scratch3) (commS (l, k.rev))
      ∗ anyAt ((c : Thread nD τ).loc cc0_scratch4) (chS (chunk l (peer c k)))) := by
  unfold barPay
  rw [peer_peer]

theorem deal (A : Fin 3 × Fin 7 → sProp 𝕄) (B : Fin 3 → Fin 7 → sProp 𝕄) :
    (bigSep Finset.univ fun k : Fin 7 => bigSep Finset.univ fun l : Fin 3 => iprop(A (l, k.rev) ∗ B l k))
      = iprop(bigSep Finset.univ A ∗ bigSep Finset.univ fun l => bigSep Finset.univ fun k => B l k) := by
  simp only [bigSep_sep']
  rw [rev_eq fun k => bigSep Finset.univ fun l : Fin 3 => A (l, k), bigSep_univ_comm, ← bigSep_univ_prod fun lk => A lk,
    bigSep_univ_comm (fun (k : Fin 7) (l : Fin 3) => B l k)]

/-- The landing slots and the places of the peers' chunks are what the device's signals hand over. -/
theorem give_all : iprop(anyAt ((c : Thread nD τ).loc cc0_scratch3) Finset.univ ∗ anyAt ((c : Thread nD τ).loc cc0_scratch4) Finset.univ)
    ⊢ iprop((bigSep Finset.univ fun k : Fin 7 => barPay (F := F) (peer c k) k.rev)
      ∗ bigSep Finset.univ fun l : Fin 3 => anyAt (F := F) ((c : Thread nD τ).loc cc0_scratch4) (chS (chunk l c))) := by
  have e : (bigSep Finset.univ fun k : Fin 7 => barPay (F := F) (peer c k) k.rev)
      = iprop((bigSep Finset.univ fun lk : Fin 3 × Fin 7 => anyAt (F := F) ((c : Thread nD τ).loc cc0_scratch3) (commS lk))
        ∗ bigSep Finset.univ fun l : Fin 3 => bigSep Finset.univ fun k : Fin 7 => anyAt (F := F) ((c : Thread nD τ).loc cc0_scratch4) (chS (chunk l (peer c k)))) := by
    simp only [barPay_peer]
    exact deal (fun lk => anyAt ((c : Thread nD τ).loc cc0_scratch3) (commS lk)) (fun l k => anyAt ((c : Thread nD τ).loc cc0_scratch4) (chS (chunk l (peer c k))))
  rw [e]
  iintro ⟨Hc, Hx⟩
  ihave Hx := ((xb_split_any c).trans ((bigSep_mono fun l _ => xb_lay_split c l).trans (Entails.of_eq (bigSep_sep' _ _ _)))) $$ Hx
  icases Hx with ⟨Hown, Hx⟩
  isplitr [Hown]
  · isplitl [Hc]
    · iapply (slots_split c) $$ Hc
    iexact Hx
  iexact Hown

/-- What the barrier's wait brings, layer by layer. -/
theorem take_all : (bigSep Finset.univ fun k : Fin 7 => barPay (F := F) c k)
    = iprop((bigSep Finset.univ fun l : Fin 3 => bigSepL hops fun k => anyAt ((peer c k : Thread nD τ).loc cc0_scratch3) (commS (l, k)))
      ∗ bigSep Finset.univ fun l : Fin 3 => bigSepL hops fun k => anyAt ((peer c k : Thread nD τ).loc cc0_scratch4) (chS (chunk l c))) := by
  unfold barPay
  simp only [bigSep_sep', ← hop_eq]
  congr 1 <;> rw [bigSep_univ_comm]

/-! ## The handshake -/

theorem wp_sig_loop (k : Fin 7) (es : List Ev) (Φ : PUnit → sProp 𝕄) :
    iprop(records m K ∗ owe c (evBar c k :: es) ∗ (tok (peer c k, none) k.rev ∗ barPay (peer c k) k.rev))
      ⊢ iprop(((owe c es ∗ emp) -∗ Φ ⟨⟩) -∗ WP c (semSignalWord (peer c k) barS 1#32) Φ) := by
  iintro ⟨#HR, HO, Ht, Hp⟩ Hk
  iapply (wp_sig m K c k es Φ) $$ [HO Ht Hp]
  · isplitr; · iexact HR
    isplitl [HO]; · iexact HO
    isplitl [Ht] <;> iassumption
  iintro HO
  iapply Hk
  isplitl [HO]; · iexact HO
  iempintro

/-- The signals to the seven peers, then the wait for theirs. -/
theorem wp_handshake (es : List Ev) (hab : Above 1 es) (Φ : PUnit → sProp 𝕄) :
    iprop(records m K ∗ owe c (hops.map (evBar c) ++ es) ∗ (bigSepL hops fun k => iprop(tok (peer c k, none) k.rev ∗ barPay (peer c k) k.rev))
        ∗ due c none 7 ∗ at0 c none)
      ⊢ iprop(((owe c es ∗ done c none ∗ bigSep Finset.univ fun k => barPay c k) -∗ Φ ⟨⟩) -∗ WP c (handshake (plain c)) Φ) := by
  unfold handshake
  iintro ⟨#HR, HO, HA, Hc, Ha⟩ Hk
  rw [WP_bind]
  iapply (wp_seqL c (records m K) (fun rest => owe c (rest.map (evBar c) ++ es)) (fun k => iprop(tok (peer c k, none) k.rev ∗ barPay (peer c k) k.rev))
    (fun _ => (iprop(emp) : sProp 𝕄)) (fun k => semSignalWord ((plain c).bar k) barS 1#32)
    (fun k rest Φ => wp_sig_loop m K c k _ Φ) hops _) $$ [HO HA]
  · isplitr; · iexact HR
    isplitl [HO]; · iexact HO
    iexact HA
  iintro ⟨HO, -⟩
  iapply (wp_waitBar m K c es hab _) $$ [HO Hc Ha]
  · isplitr; · iexact HR
    isplitl [HO]; · iexact HO
    isplitl [Hc] <;> iassumption
  iexact Hk

/-! ## The body's run -/

theorem lay_zip (A B : Fin 3 → sProp 𝕄) : iprop(bigSep Finset.univ A ∗ bigSep Finset.univ B) ⊢ bigSep Finset.univ fun l => iprop(A l ∗ B l) :=
  Entails.of_eq (bigSep_sep' _ _ _).symm
theorem lay_unzip (A B : Fin 3 → sProp 𝕄) : (bigSep Finset.univ fun l => iprop(A l ∗ B l)) ⊢ iprop(bigSep Finset.univ A ∗ bigSep Finset.univ B) :=
  Entails.of_eq (bigSep_sep' _ _ _)
theorem lay3 (Φ : Fin 3 → sProp 𝕄) : bigSep Finset.univ Φ = iprop(Φ 0 ∗ Φ 1 ∗ Φ 2) := by
  rw [lay_eq]
  rfl

/-- The rights to pay the weight copies of a layer. -/
def wTok (l : Fin 3) : sProp 𝕄 := iprop(tok (c, some (.inl (l, 0))) 0 ∗ tok (c, some (.inl (l, 1))) 0)

/-- The rest a layer's cells come with at launch. -/
def layTok (l : Fin 3) : sProp 𝕄 :=
  iprop((at0 c (some (.inl (l, 0))) ∗ at0 c (some (.inl (l, 1))))
    ∗ (bigSepL hops fun k => iprop(tok (c, some (.inr (0, l, k))) 0 ∗ tok (peer c k, some (.inr (1, l, k))) 0))
    ∗ (bigSepL hops fun k => iprop(due c (some (.inr (1, l, k))) N ∗ at0 c (some (.inr (1, l, k)))))
    ∗ (bigSepL hops fun k => iprop(tok (c, some (.inr (2, l, k))) 0 ∗ tok (peer c k, some (.inr (3, l, k))) 0))
    ∗ (bigSepL hops fun k => iprop(due c (some (.inr (3, l, k))) N ∗ at0 c (some (.inr (3, l, k)))))
    ∗ (bigSepL hops fun k => at0 c (some (.inr (0, l, k)))) ∗ (bigSepL hops fun k => at0 c (some (.inr (2, l, k)))))

/-- What a layer starts from, put together. -/
theorem layIn_intro (l : Fin 3) :
    iprop((due c (some (.inl (l, 0))) Nw ∗ due c (some (.inl (l, 1))) Nu) ∗ anyAt ((c : Thread nD τ).loc cc0_scratch2) (layS l)
      ∗ anyAt ((c : Thread nD τ).loc cc0_scratch4) (chS (chunk l c))
      ∗ (bigSepL hops fun k => anyAt ((peer c k : Thread nD τ).loc cc0_scratch3) (commS (l, k)))
      ∗ (bigSepL hops fun k => anyAt ((peer c k : Thread nD τ).loc cc0_scratch4) (chS (chunk l c)))
      ∗ layTok c l) ⊢ layIn (F := F) c l := by
  unfold layTok layIn
  iintro ⟨Hd, Hs, Hx, HP, HQ, Ha, HA, HB, HC, HD, HE, HG⟩
  isplitl [Hd]; · iexact Hd
  isplitl [Ha]; · iexact Ha
  isplitl [Hs]; · iexact Hs
  isplitl [Hx]; · iexact Hx
  isplitl [HP HA]
  · iapply (hop_zip (fun k => anyAt ((peer c k : Thread nD τ).loc cc0_scratch3) (commS (l, k))) _)
    isplitl [HP]; · iexact HP
    iexact HA
  isplitl [HB]; · iexact HB
  isplitl [HQ HC]
  · iapply (hop_zip (fun k => anyAt ((peer c k : Thread nD τ).loc cc0_scratch4) (chS (chunk l c))) _)
    isplitl [HQ]; · iexact HQ
    iexact HC
  isplitl [HD]; · iexact HD
  isplitl [HE] <;> iassumption

/-- The same of all three layers. -/
theorem layIn_all :
    iprop((bigSep Finset.univ fun l : Fin 3 => iprop(due c (some (.inl (l, 0))) Nw ∗ due c (some (.inl (l, 1))) Nu))
      ∗ (bigSep Finset.univ fun l : Fin 3 => anyAt ((c : Thread nD τ).loc cc0_scratch2) (layS l))
      ∗ (bigSep Finset.univ fun l : Fin 3 => anyAt ((c : Thread nD τ).loc cc0_scratch4) (chS (chunk l c)))
      ∗ (bigSep Finset.univ fun l : Fin 3 => bigSepL hops fun k => anyAt ((peer c k : Thread nD τ).loc cc0_scratch3) (commS (l, k)))
      ∗ (bigSep Finset.univ fun l : Fin 3 => bigSepL hops fun k => anyAt ((peer c k : Thread nD τ).loc cc0_scratch4) (chS (chunk l c)))
      ∗ bigSep Finset.univ fun l : Fin 3 => layTok c l) ⊢ bigSep Finset.univ fun l : Fin 3 => layIn (F := F) c l := by
  rw [← bigSep_sep', ← bigSep_sep', ← bigSep_sep', ← bigSep_sep', ← bigSep_sep']
  exact bigSep_mono fun l _ => layIn_intro c l

/-- A layer's weight copies started: the form the loop over the layers uses. -/
theorem wp_startW_loop (l : Fin 3) (Φ : PUnit → sProp 𝕄) :
    iprop(records m K ∗ emp ∗ (((wArr m l c ∗ uArr m l c) ∗ wTok c l)
        ∗ (anyAt ((c : Thread nD τ).loc cc0_scratch0) (winSt l) ∗ anyAt ((c : Thread nD τ).loc cc0_scratch1) (woutSt l))))
      ⊢ iprop(((emp ∗ (due c (some (.inl (l, 0))) Nw ∗ due c (some (.inl (l, 1))) Nu)) -∗ Φ ⟨⟩) -∗ WP c (startW l) Φ) := by
  unfold wTok
  iintro ⟨#HR, -, ⟨⟨Hw, Hu⟩, ⟨Ht, Ht'⟩⟩, ⟨Hd, Hd'⟩⟩ Hk
  iapply (wp_startW m K c l Φ) $$ [Hw Hu Ht Ht' Hd Hd']
  · isplitr; · iexact HR
    isplitl [Hd]; · iexact Hd
    isplitl [Hw]; · iexact Hw
    isplitl [Ht]; · iexact Ht
    isplitl [Hd']; · iexact Hd'
    isplitl [Hu] <;> iassumption
  iintro H
  iapply Hk
  isplitr; · iempintro
  iexact H

/-- What the body starts from, its staged windows and what it owes apart. -/
def bodyIn : sProp 𝕄 :=
  iprop((due c none 7 ∗ at0 c none) ∗ (bigSep Finset.univ fun k : Fin 7 => tok (peer c k, none) k.rev)
    ∗ (bigSep Finset.univ fun l : Fin 3 => iprop(wArr m l c ∗ uArr m l c)) ∗ (bigSep Finset.univ fun l : Fin 3 => wTok c l)
    ∗ (bigSep Finset.univ fun l : Fin 3 => layTok c l)
    ∗ anyAt ((c : Thread nD τ).loc cc0_scratch0) Finset.univ ∗ anyAt ((c : Thread nD τ).loc cc0_scratch1) Finset.univ
    ∗ anyAt ((c : Thread nD τ).loc cc0_scratch2) Finset.univ ∗ anyAt ((c : Thread nD τ).loc cc0_scratch3) Finset.univ
    ∗ anyAt ((c : Thread nD τ).loc cc0_scratch4) Finset.univ)

/-- What the body leaves. -/
def bodyOut : sProp 𝕄 := iprop(done c none ∗ bigSep Finset.univ fun l : Fin 3 => layOut m c l)

theorem WP_dev (Q : Dev nD → sProp 𝕄) : WP c (Prog.lift .deviceId) Q = iprop(|={Set.univ}=> Q c) := by
  unfold Prog.lift
  exact (wp_deviceId Variants.none (c : Thread nD τ) none Set.univ).trans (wp_ret _ _ _ _ _)

theorem seqAcc3 {α : Type} (f : Fin 3 → α → KProg F α) (x : α) :
    seqAcc f layers x = f 0 x >>= fun x => f 1 x >>= fun x => f 2 x >>= fun x => pure x := rfl

/-- The body's run: from the activations in its first window to those of the last layer in its second. -/
theorem wp_body (g : S64x512.Idx → F .f32) (Φ : PUnit → sProp 𝕄) :
    iprop(records m K ∗ owe c (evAll c) ∗ bodyIn m c ∗ ((c : Thread nD τ).loc cc0_stg0_0 ↦{fullShare} xAt m c) ∗ ((c : Thread nD τ).loc cc0_stg1_0 ↦{fullShare} g))
      ⊢ iprop(((owe c [] ∗ bodyOut m c ∗ ((c : Thread nD τ).loc cc0_stg0_0 ↦{fullShare} xAt m c)
        ∗ ((c : Thread nD τ).loc cc0_stg1_0 ↦{fullShare} res m 2)) -∗ Φ ⟨⟩) -∗ WP c body Φ) := by
  have hz : (![0, 0] : Fin 2 → Nat) = fun _ => 0 := funext fun a => by fin_cases a <;> rfl
  unfold body bodyIn evAll
  iintro ⟨#HR, HO, ⟨⟨Hbc, Hba⟩, Hbt, Hw, Hwt, Hlt, Hs0, Hs1, Hs2, Hs3, Hs4⟩, Hx, Ho⟩ Hk
  rw [WP_bind, WP_dev]
  imodintro
  rw [asPrinted_eq, WP_bind]
  iapply (wp_seqL c (records m K) (fun _ => (iprop(emp) : sProp 𝕄)) _ _ startW (fun l _ Φ => wp_startW_loop m K c l Φ) layers _) $$ [Hw Hwt Hs0 Hs1]
  · isplitr; · iexact HR
    isplitr; · iempintro
    rw [← lay_eq]
    iapply (lay_zip (fun l => iprop((wArr m l c ∗ uArr m l c) ∗ wTok c l))
      (fun l => iprop(anyAt ((c : Thread nD τ).loc cc0_scratch0) (winSt l) ∗ anyAt ((c : Thread nD τ).loc cc0_scratch1) (woutSt l))))
    isplitl [Hw Hwt]
    · iapply (lay_zip (fun l => iprop(wArr m l c ∗ uArr m l c)) (fun l => wTok c l))
      isplitl [Hw] <;> iassumption
    · iapply (lay_zip (fun l => anyAt ((c : Thread nD τ).loc cc0_scratch0) (winSt l)) (fun l => anyAt ((c : Thread nD τ).loc cc0_scratch1) (woutSt l)))
      isplitl [Hs0]
      · iapply (win_split c) $$ Hs0
      · iapply (wout_split c) $$ Hs1
  rw [← lay_eq]
  iintro ⟨-, Hdue⟩
  ihave Hg := (give_all c) $$ [Hs3 Hs4]
  · isplitl [Hs3] <;> iassumption
  icases Hg with ⟨Hg, Hown⟩
  rw [WP_bind]
  iapply (wp_handshake m K c (evRest c layers) (above_rest c 1 layers fun l _ => Nat.le_add_right _ _) _) $$ [HO Hbc Hba Hbt Hg]
  · isplitr; · iexact HR
    isplitl [HO]; · iexact HO
    isplitl [Hbt Hg]
    · iapply (hop_zip (fun k => tok (peer c k, none) k.rev) (fun k => barPay (peer c k) k.rev))
      rw [← hop_eq, ← hop_eq]
      isplitl [Hbt] <;> iassumption
    isplitl [Hbc] <;> iassumption
  rw [take_all]
  iintro ⟨HO, Hbd, HP, HQ⟩
  ihave HL := (layIn_all c) $$ [Hdue Hs2 Hown HP HQ Hlt]
  · isplitl [Hdue]; · iexact Hdue
    isplitl [Hs2]; · iapply (send_split_any c) $$ Hs2
    isplitl [Hown]; · iexact Hown
    isplitl [HP]; · iexact HP
    isplitl [HQ] <;> iassumption
  ihave HL := (Entails.of_eq (lay3 fun l => layIn c l)) $$ HL
  icases HL with ⟨H0, H1, H2⟩
  rw [WP_bind]
  iapply (wp_ld c xM outR _ Finset.univ (xAt m c) (Finset.subset_univ _) _) $$ Hx
  iintro Hx
  rw [WP_bind]
  have hload : shapeCast S64x512 ((xM.access outR).read (Elt F) (xAt m c)) shapeCasts_S64x512_S64x512 = act m 0 c :=
    (shapeCast_self _ _).trans (Memref.read_access_unit_zero (Elt F) cc0_stg0_0 hz _ (xAt m c))
  rw [hload, seqAcc3, WP_bind]
  iapply (wp_layer m K c 0 [1, 2] (by decide) _ rfl _) $$ [HO H0]
  · isplitr; · iexact HR
    isplitl [HO]; · iexact HO
    iexact H0
  iintro ⟨HO, H0⟩
  rw [WP_bind]
  iapply (wp_layer m K c 1 [2] (by decide) _ rfl _) $$ [HO H1]
  · isplitr; · iexact HR
    isplitl [HO]; · iexact HO
    iexact H1
  iintro ⟨HO, H1⟩
  rw [WP_bind]
  iapply (wp_layer m K c 2 [] (by decide) _ rfl _) $$ [HO H2]
  · isplitr; · iexact HR
    isplitl [HO]; · iexact HO
    iexact H2
  iintro ⟨HO, H2⟩
  rw [WP_pure]
  imodintro
  rw [WP_bind]
  iapply (wp_ld c oM outR _ Finset.univ g (Finset.subset_univ _) _) $$ Ho
  iintro Ho
  iapply (wp_st c oM outR (res m 2) _ _ Finset.univ g (Finset.subset_univ _) _) $$ Ho
  iintro Ho
  iapply Hk
  isplitl [HO]; · iexact HO
  isplitl [Hbd H0 H1 H2]
  · unfold bodyOut
    isplitl [Hbd]; · iexact Hbd
    iapply (Entails.of_eq (lay3 fun l => layOut m c l).symm)
    isplitl [H0]; · iexact H0
    isplitl [H1] <;> iassumption
  isplitl [Hx]; · iexact Hx
  iapply (Entails.of_eq (congrArg (fun v : S64x512.Idx → F .f32 => ((c : Thread nD τ).loc cc0_stg1_0 ↦{fullShare} v : sProp 𝕄))
    (Memref.write_access_unit_zero_univ (Elt F) cc0_stg1_0 hz inb_S64x512_S64x512_0_0 g (res m 2)))) $$ Ho

end Cert.AllToAllMlp

end
-- ==== Proof.Deal.lean ====
/-
What the launch deals the devices: the cells over all devices, the tokens of their duties carried to the devices that
pay them, the credits of what is owed, and the invariants.
-/
module

public import proofs.«01_k».proof.Proof.Body
public import Idealize.ShloMosaic.Lib.Pipeline.BigSepL
public import Idealize.ShloMosaic.Lib.VecWindow

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## Families over a device's cells -/

omit [FloatOps F] in
theorem fin2_eq (Φ : Fin 2 → sProp 𝕄) : bigSep Finset.univ Φ = iprop(Φ 0 ∗ Φ 1) := bigSep_univ_eq_bigSepL [0, 1] (by decide) (by decide) Φ
omit [FloatOps F] in
theorem fin4_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The cells of a device are its barrier's and its own ones. -/
theorem opt_eq (Φ : Option J → sProp 𝕄) : bigSep Finset.univ Φ = iprop(Φ none ∗ bigSep Finset.univ fun j : J => Φ (some j)) := by
  rw [bigSep_univ_equiv (Equiv.optionEquivSumPUnit.{0} J).symm Φ, bigSep_univ_sum]
  have h : (bigSep Finset.univ fun b : PUnit.{1} => Φ ((Equiv.optionEquivSumPUnit.{0} J).symm (.inr b))) = Φ none := bigSep_singleton
  rw [h]
  exact BI.Entails.antisymm BI.sep_comm BI.sep_comm

/-- A device's own cells layer by layer: the two weights', then the four kinds of transfer's by hops. -/
theorem cells_eq (Φ : J → sProp 𝕄) : bigSep Finset.univ Φ = bigSep Finset.univ fun l : Fin 3 =>
    iprop((Φ (.inl (l, 0)) ∗ Φ (.inl (l, 1))) ∗ (bigSepL hops fun k => Φ (.inr (0, l, k))) ∗ (bigSepL hops fun k => Φ (.inr (1, l, k)))
      ∗ (bigSepL hops fun k => Φ (.inr (2, l, k))) ∗ (bigSepL hops fun k => Φ (.inr (3, l, k)))) := by
  rw [bigSep_univ_sum, bigSep_univ_prod, bigSep_univ_prod, fin4_eq, bigSep_univ_prod, bigSep_univ_prod, bigSep_univ_prod, bigSep_univ_prod]
  simp only [fin2_eq, hop_eq, bigSep_sep']
  rfl

/-! ## The tokens -/

/-- Going `k + 1` places on, of all devices at once. -/
def peerE (k : Fin 7) : Dev nD ≃ Dev nD := ⟨fun c => peer c k, fun c => back c k, fun c => back_peer c k, fun c => peer_back c k⟩

/-- The device at whose cell device `c` pays duty `j`. -/
def toE : J → (Dev nD ≃ Dev nD)
  | .inl _ => Equiv.refl _
  | .inr (0, _, _) => Equiv.refl _
  | .inr (1, _, k) => peerE k
  | .inr (2, _, _) => Equiv.refl _
  | .inr (3, _, k) => peerE k

/-- The duties of a device's cells as minted: seven at its barrier, one at each of its own cells. -/
def tokOf (ct : Dev nD × (Fin 7 ⊕ J)) : GSem nD τ sig × ℕ × Fin 7 := match ct.2 with
  | .inl k => (kcell (ct.1, none), 0, k)
  | .inr j => (kcell (ct.1, some j), 0, 0)
theorem tokOf_inj : Function.Injective tokOf := by
  rintro ⟨c, k | j⟩ ⟨c', k' | j'⟩ h
  · have h1 := kcell_inj (congrArg Prod.fst h)
    have h2 : k = k' := congrArg (fun x : GSem nD τ sig × ℕ × Fin 7 => x.2.2) h
    rw [h2, show c = c' from congrArg Prod.fst h1]
  · exact absurd (congrArg Prod.snd (kcell_inj (congrArg Prod.fst h))) (by simp)
  · exact absurd (congrArg Prod.snd (kcell_inj (congrArg Prod.fst h))) (by simp)
  · have h1 := kcell_inj (congrArg Prod.fst h)
    rw [show c = c' from congrArg Prod.fst h1, show j = j' from Option.some.inj (congrArg Prod.snd h1)]
def allToks : Finset (GSem nD τ sig × ℕ × Fin 7) := Finset.univ.map ⟨tokOf, tokOf_inj⟩
def allCells : Finset (GSem nD τ sig) := Finset.univ.map ⟨kcell, kcell_inj⟩

/-- The tokens of the duties at device `c`'s own cells, -/
def toks (c : Dev nD) : sProp 𝕄 :=
  iprop((bigSep Finset.univ fun k : Fin 7 => tok (c, none) k) ∗ bigSep Finset.univ fun j : J => tok (c, some j) 0)
/-- and those of the duties device `c` pays. -/
def payToks (c : Dev nD) : sProp 𝕄 :=
  iprop((bigSep Finset.univ fun k : Fin 7 => tok (peer c k, none) k.rev) ∗ bigSep Finset.univ fun j : J => tok (toE j c, some j) 0)

/-- A family over devices and duties, each duty's devices moved by a bijection, is the same family. -/
theorem around {I : Type} [Fintype I] (e : I → (Dev nD ≃ Dev nD)) (Φ : Dev nD → I → sProp 𝕄) :
    (bigSep Finset.univ fun c : Dev nD => bigSep Finset.univ fun i : I => Φ (e i c) i)
      = bigSep Finset.univ fun c : Dev nD => bigSep Finset.univ fun i : I => Φ c i := by
  rw [bigSep_univ_comm, bigSep_univ_comm (fun (c : Dev nD) (i : I) => Φ c i)]
  exact bigSep_congr fun i _ => (bigSep_univ_equiv (e i) fun c => Φ c i).symm

theorem toks_around : (bigSep Finset.univ fun c : Dev nD => (toks c : sProp 𝕄)) = bigSep Finset.univ fun c : Dev nD => payToks c := by
  unfold toks payToks
  rw [bigSep_sep', bigSep_sep']
  rw [around toE fun c j => tok (c, some j) 0]
  have h := (around peerE fun (c : Dev nD) (k : Fin 7) => (tok (c, none) k.rev : sProp 𝕄)).trans
    (bigSep_congr fun c _ => rev_eq fun k : Fin 7 => tok (c, none) k)
  exact congrArg (fun A : sProp 𝕄 => iprop(A ∗ _)) h.symm

/-! ## The credits -/

/-- The payments in program order, each as hops on, cell and amount. -/
def evs : List (Fin 3) → List (Fin 7 × Option J × ℕ)
  | [] => []
  | l :: ls => hops.map (fun k => (k, some (.inr (1, l, k)), N)) ++ (hops.map (fun k => (k, some (.inr (3, l, k)), N)) ++ evs ls)

/-- What device `d` pays for one of them. -/
def evOf (d : Dev nD) (e : Fin 7 × Option J × ℕ) : Ev := ((peer d e.1, e.2.1), e.2.2)

theorem evRest_eq (d : Dev nD) : ∀ ls, evRest d ls = (evs ls).map (evOf d)
  | [] => rfl
  | l :: ls => by
    show _ ++ (_ ++ evRest d ls) = _
    rw [evRest_eq d ls]
    show _ = List.map (evOf d) (_ ++ (_ ++ evs ls))
    rw [List.map_append, List.map_append, List.map_map, List.map_map]
    rfl
theorem evAll_eq (d : Dev nD) : evAll d = (hops.map (fun k => (k, none, 1)) ++ evs layers).map (evOf d) := by
  unfold evAll
  rw [evRest_eq, List.map_append, List.map_map]
  rfl

/-- What the devices owe a device along a list of payments is one credit a payment. -/
theorem creds_list (c : Dev nD) : ∀ es : List (Fin 7 × Option J × ℕ),
    (Pipeline.launchCred (fun d => owedL (es.map (evOf d))) c : sProp 𝕄) ⊢ bigSepL es fun e => due c e.2.1 e.2.2
  | [] => by
    rw [bigSepL_nil]
    exact Entails.of_eq (Pipeline.launchCred_zero c)
  | e :: es => by
    rw [bigSepL_cons']
    refine (Entails.of_eq (Pipeline.launchCred_add (fun d => owedL (es.map (evOf d))) (fun d => tallyAt (kcell (peer d e.1, e.2.1)) () e.2.2) c)).trans ?_
    iintro ⟨H, H'⟩
    isplitl [H']
    · iapply (Pipeline.launchCred_tallyAt (csem e.2.1) (fun d => peer d e.1) (fun d => back d e.1) (fun d => peer_back d e.1) (fun d => back_peer d e.1)
        () e.2.2 c) $$ H'
    · iapply (creds_list c es) $$ H

/-- Single units at one cell add up. -/
theorem due_sum (c : Dev nD) (j : Option J) {I : Type} : ∀ ks : List I, (bigSepL ks fun _ => due c j 1 : sProp 𝕄) ⊢ due c j ks.length
  | [] => by
    rw [bigSepL_nil]
    exact Entails.of_eq (by unfold due; rw [List.length_nil, tallyAt_zero, cred_zero]; rfl)
  | k :: ks => by
    rw [bigSepL_cons']
    have h : iprop(due c j 1 ∗ due c j ks.length) ⊢ (due c j (k :: ks).length : sProp 𝕄) := by
      refine ((cred_add _ _).2).trans (Entails.of_eq ?_)
      rw [tallyAt_add, List.length_cons, Nat.add_comm]
    exact (sep_mono_right (due_sum c j ks)).trans h

theorem evs_split (c : Dev nD) : ∀ ls, (bigSepL (evs ls) fun e => due c e.2.1 e.2.2 : sProp 𝕄) ⊢ bigSepL ls fun l =>
    iprop((bigSepL hops fun k => due c (some (.inr (1, l, k))) N) ∗ bigSepL hops fun k => due c (some (.inr (3, l, k))) N)
  | [] => by unfold evs; rw [bigSepL_nil, bigSepL_nil]
  | l :: ls => by
    unfold evs
    rw [bigSepL_append, bigSepL_append, bigSepL_map, bigSepL_map, bigSepL_cons' l ls]
    iintro ⟨H, H', HL⟩
    isplitl [H H']
    · isplitl [H]; · iexact H
      iexact H'
    · iapply (evs_split c ls) $$ HL

/-- What the launch credits device `c`: its barrier's seven units, and each arriving transfer's amount. -/
theorem creds (c : Dev nD) : (Pipeline.launchCred (fun d => owedL (evAll d)) c : sProp 𝕄)
    ⊢ iprop(due c none 7 ∗ bigSep Finset.univ fun l : Fin 3 =>
      iprop((bigSepL hops fun k => due c (some (.inr (1, l, k))) N) ∗ bigSepL hops fun k => due c (some (.inr (3, l, k))) N)) := by
  rw [show (fun d => owedL (evAll d)) = fun d => owedL ((hops.map (fun k => (k, none, 1)) ++ evs layers).map (evOf d)) from
    funext fun d => by rw [evAll_eq], lay_eq]
  refine (creds_list c _).trans ?_
  rw [bigSepL_append, bigSepL_map]
  iintro ⟨H, H'⟩
  isplitl [H]
  · iapply (due_sum c none hops) $$ H
  · iapply (evs_split c layers) $$ H'

end Cert.AllToAllMlp

end
-- ==== Proof.BodyEq.lean ====
module

public import proofs.«01_k».proof.Proof.Prog

@[expose] public section

set_option maxRecDepth 65536

noncomputable section

namespace Cert.AllToAllMlp

open Cert.KernelIdeal Cert.KernelIdeal.Gen
open Idealize.ShloMosaic
open Idealize.SL.Sem

variable {F : FTy → Type} [FloatOps F]

set_option maxHeartbeats 0 in
/-- The printed body is the layered one. -/
theorem printed_eq : (printed : KProg F PUnit) = body := rfl

end Cert.AllToAllMlp

end
-- ==== Proof.Launch.lean ====
/-
The launch: the pipeline's data for the body, the ghost state set up for all devices at once, and the run of the whole
program from any memory.
-/
module

public import proofs.«01_k».proof.Proof.Deal
public import proofs.«01_k».proof.Proof.BodyEq
public import proofs.«01_k».proof.Proof.Gen.KernelIdeal.Launch
public import Idealize.ShloMosaic.Lib.Pipeline.BigSepL
public import Idealize.ShloMosaic.Lib.VecWindow

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from -/

/-- The cells' invariants and that every cell has begun: the records, the levels apart. -/
def recs (K : Dev nD × Option J → ℕ) : sProp 𝕄 :=
  iprop((bigSep Finset.univ fun cj => cellInv ER (sched m) (K cj) (kcell cj)) ∗ bigSep Finset.univ fun cj => reached ER (kcell cj) 0)
instance recs_persistent (K : Dev nD × Option J → ℕ) : BI.Persistent (recs m K) := by unfold recs; infer_instance

/-- What stays with device `c`: its place at each of its cells, and the tokens of the duties it pays. -/
def linear (c : Dev nD) : sProp 𝕄 := iprop((at0 c none ∗ bigSep Finset.univ fun j : J => at0 c (some j)) ∗ payToks c)

/-- What the global step makes for device `c`. -/
def G' (c : Dev nD) : sProp 𝕄 := iprop(∃ K, recs m K ∗ linear c)

/-- What device `c`'s body starts from, its scratch buffers and staged windows apart. -/
def start (c : Dev nD) : sProp 𝕄 :=
  iprop(∃ K, records m K ∗ (due c none 7 ∗ at0 c none) ∗ (bigSep Finset.univ fun k : Fin 7 => tok (peer c k, none) k.rev)
    ∗ (bigSep Finset.univ fun l : Fin 3 => iprop(wArr m l c ∗ uArr m l c)) ∗ (bigSep Finset.univ fun l : Fin 3 => wTok c l)
    ∗ bigSep Finset.univ fun l : Fin 3 => layTok c l)

def Φ₀ (c : Dev nD) : sProp 𝕄 := iprop(∃ K, records m K ∗ bodyIn m c)

/-- A layer's tokens, places and credits, from the device's own cells of the layer. -/
theorem layTok_intro (c : Dev nD) (l : Fin 3) :
    iprop(((at0 c (some (.inl (l, 0))) ∗ at0 c (some (.inl (l, 1))))
        ∗ (bigSepL hops fun k => at0 c (some (.inr (0, l, k)))) ∗ (bigSepL hops fun k => at0 c (some (.inr (1, l, k))))
        ∗ (bigSepL hops fun k => at0 c (some (.inr (2, l, k)))) ∗ (bigSepL hops fun k => at0 c (some (.inr (3, l, k)))))
      ∗ ((tok (c, some (.inl (l, 0))) 0 ∗ tok (c, some (.inl (l, 1))) 0)
        ∗ (bigSepL hops fun k => tok (c, some (.inr (0, l, k))) 0) ∗ (bigSepL hops fun k => tok (peer c k, some (.inr (1, l, k))) 0)
        ∗ (bigSepL hops fun k => tok (c, some (.inr (2, l, k))) 0) ∗ (bigSepL hops fun k => tok (peer c k, some (.inr (3, l, k))) 0))
      ∗ (bigSepL hops fun k => due c (some (.inr (1, l, k))) N) ∗ (bigSepL hops fun k => due c (some (.inr (3, l, k))) N))
      ⊢ (iprop(wTok c l ∗ layTok c l) : sProp 𝕄) := by
  unfold wTok layTok
  iintro ⟨⟨Hw, H0, H1, H2, H3⟩, ⟨Ht, T0, T1, T2, T3⟩, D1, D3⟩
  isplitl [Ht]; · iexact Ht
  isplitl [Hw]; · iexact Hw
  isplitl [T0 T1]
  · iapply (hop_zip (fun k => tok (c, some (.inr (0, l, k))) 0) (fun k => tok (peer c k, some (.inr (1, l, k))) 0))
    isplitl [T0] <;> iassumption
  isplitl [D1 H1]
  · iapply (hop_zip (fun k => due c (some (.inr (1, l, k))) N) (fun k => at0 c (some (.inr (1, l, k)))))
    isplitl [D1] <;> iassumption
  isplitl [T2 T3]
  · iapply (hop_zip (fun k => tok (c, some (.inr (2, l, k))) 0) (fun k => tok (peer c k, some (.inr (3, l, k))) 0))
    isplitl [T2] <;> iassumption
  isplitl [D3 H3]
  · iapply (hop_zip (fun k => due c (some (.inr (3, l, k))) N) (fun k => at0 c (some (.inr (3, l, k)))))
    isplitl [D3] <;> iassumption
  isplitl [H0] <;> iassumption

/-- The same of all layers. -/
theorem layTok_all (c : Dev nD) :
    iprop((bigSep Finset.univ fun j : J => at0 c (some j)) ∗ (bigSep Finset.univ fun j : J => tok (toE j c, some j) 0)
      ∗ bigSep Finset.univ fun l : Fin 3 =>
        iprop((bigSepL hops fun k => due c (some (.inr (1, l, k))) N) ∗ bigSepL hops fun k => due c (some (.inr (3, l, k))) N))
      ⊢ (iprop((bigSep Finset.univ fun l : Fin 3 => wTok c l) ∗ bigSep Finset.univ fun l : Fin 3 => layTok c l) : sProp 𝕄) := by
  rw [cells_eq fun j : J => at0 c (some j), cells_eq fun j : J => tok (toE j c, some j) 0, ← bigSep_sep', ← bigSep_sep', ← bigSep_sep']
  exact bigSep_mono fun l _ => layTok_intro c l

/-! ## The pipeline's data -/

abbrev s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => res m 2
  Φ t := match t with
    | ⟨0, _⟩ => Φ₀ m c
    | ⟨_ + 1, _⟩ => bodyOut m c
  q _ := fullShare
  owed t := match t with
    | ⟨0, _⟩ => owedL (evAll c)
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; simp only [t₀, Fin.mk.injEq]; omega

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(bodyOut m c ∗ (dats m ρ 0 c).owesAt () t₀.succ ∗ stg c cc0_stg0_0 (xAt m c) ∗ stg c cc0_stg1_0 (res m 2))

/-- The body from what the pipeline hands it to what it wants back. -/
theorem sound_body (c : Dev nD) : bodyPre m ρ c ⊢ WP c body fun _ => bodyPost m ρ c := by
  unfold bodyPre Φ₀ Dat.owesAt Pipeline.owesWithin
  iintro ⟨⟨%K, #HR, HB⟩, ⟨%W, %hW, HO⟩, ⟨%d0, %g0, %hx, Hx⟩, ⟨%d1, %g1, %hg, Hout⟩⟩
  have hx : g0 = xAt m c := hx.trans (by unfold Dat.before; rw [if_pos (fetch_0 t₀)]; rfl)
  subst hx
  iapply (wp_body m K c g1 fun _ => bodyPost m ρ c) $$ [HB HO Hx Hout]
  · isplitr; · iexact HR
    isplitl [HO]
    · unfold owe; iexists W; iexact HO
    isplitl [HB]; · iexact HB
    isplitl [Hx]; · iexact Hx
    iexact Hout
  unfold owe bodyPost Dat.owesAt Pipeline.owesWithin
  iintro ⟨⟨%W', HO⟩, HB, Hx, Hout⟩
  isplitl [HB]; · iexact HB
  isplitl [HO]
  · iexists W'
    isplitr
    · ipureintro; exact fun _ _ => Or.inl trivial
    iexact HO
  isplitl [Hx]
  · iexists xAt m c
    isplitr; · ipureintro; rfl
    iexact Hx
  · iexists res m 2
    isplitr; · ipureintro; rfl
    iexact Hout

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (printed : KProg F PUnit) fun _ => bodyPost m ρ c
  rw [printed_eq]
  exact sound_body m ρ c

end Cert.AllToAllMlp

end
-- ==== Proof.Run.lean ====
/-
The run: the ghost state of all devices set up at once, the side conditions of the launch, and what the program leaves
in memory.
-/
module

public import proofs.«01_k».proof.Proof.Launch
public import proofs.«01_k».proof.Proof.Gen.KernelIdeal.Launch
public import Idealize.ShloMosaic.Lib.Pipeline.CollectiveSegs
public import Idealize.ShloMosaic.Lib.Pipeline.BigSepL
public import Idealize.ShloMosaic.Lib.VecWindow

@[expose] public section

set_option maxRecDepth 16384

noncomputable section

namespace Cert.AllToAllMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem ownSemFacts : Pipeline.OwnSemFacts cfg0.spec osem := by decide +kernel

theorem share_eq (c : Dev nD) (w : Fin cfg0.W) : (dats m ρ 0 c).share w = fullShare := by unfold Dat.share; split <;> rfl

/-- The launch element: the pipeline library's, and the protocol's over all cells. -/
def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun j : Option J => roundState ER (sched m) (kcell (c, j)) 0)
    ∗ (bigSep Finset.univ fun j : Option J => iprop(at0 c j ∗ reached ER (kcell (c, j)) 0)) ∗ toks c)

omit [FloatOps F] in
theorem cells_of (Φ : GSem nD τ sig → sProp 𝕄) :
    bigSep allCells Φ = bigSep Finset.univ fun c : Dev nD => bigSep Finset.univ fun j : Option J => Φ (kcell (c, j)) := by
  unfold allCells; rw [bigSep_map, bigSep_univ_prod]; rfl

theorem toks_of : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (cells_of fun g => roundState ER (sched m) g 0)) $$ Hst
  ihave Hat := (Entails.of_eq (cells_of fun g => atPos ER g 0 ∅ 0)) $$ Hat
  ihave Hr := (Entails.of_eq (cells_of fun g => reached ER g 0)) $$ Hr
  ihave Htok := (Entails.of_eq toks_of) $$ Htok
  unfold G; simp only [bigSep_sep']
  isplitl [Hst]; · iexact Hst
  isplitl [Hat Hr]
  · isplitl [Hat] <;> iassumption
  iexact Htok

omit [FloatOps F] in
/-- The barrier semaphore is the launch's one unscoped semaphore. -/
theorem unscopedSems0_eq (c : Dev nD) : (unscopedSems0 c : sProp 𝕄) = done c none := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : J => done c (some j) := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Option J => iprop(∃ κ : ℕ, cellInv ER (sched m) κ (kcell (c, j))))
          ∗ (bigSep Finset.univ fun j : Option J => iprop(at0 c j ∗ reached ER (kcell (c, j)) 0)) ∗ toks c) := by
  unfold G
  rw [ownSems0_eq, unscopedSems0_eq]
  iintro ⟨Hos, Hus, Hst, Hat, Htok⟩
  imod (show iprop((bigSep Finset.univ fun j : Option J => done c j) ∗ bigSep Finset.univ fun j : Option J => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hos Hus Hst] with Hinv
  · isplitl [Hos Hus]
    · iapply (Entails.of_eq (opt_eq fun j => done c j).symm)
      isplitl [Hus] <;> iassumption
    iexact Hst
  imodintro
  isplitl [Hinv]; · iexact Hinv
  isplitl [Hat]; · iexact Hat
  iexact Htok

/-- A persistent fact is handed to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro : iprop((bigSep Finset.univ fun c : Dev nD => bigSep Finset.univ fun j : Option J => at0 c j)
    ∗ bigSep Finset.univ fun c : Dev nD => payToks c) ⊢ (bigSep Finset.univ fun c : Dev nD => linear c : sProp 𝕄) := by
  have h (c : Dev nD) : iprop((bigSep Finset.univ fun j : Option J => at0 c j) ∗ payToks c) = (linear c : sProp 𝕄) := by
    unfold linear; rw [opt_eq fun j => at0 c j]
  rw [← bigSep_sep']
  exact bigSep_mono fun c _ => Entails.of_eq (h c)

theorem ghost_intro (K : Dev nD × Option J → ℕ) (c : Dev nD) : iprop(recs m K ∗ linear c) ⊢ G' m c := by
  unfold G'
  iintro H
  iexists K
  iexact H

theorem regroup :
    (bigSep Finset.univ fun c : Dev nD => iprop((bigSep Finset.univ fun j : Option J => iprop(∃ κ : ℕ, cellInv ER (sched m) κ (kcell (c, j))))
          ∗ (bigSep Finset.univ fun j : Option J => iprop(at0 c j ∗ reached ER (kcell (c, j)) 0)) ∗ toks c) : sProp 𝕄)
      ⊢ bigSep Finset.univ (G' m) := by
  rw [bigSep_sep', bigSep_sep', ← bigSep_univ_prod (fun cj : Dev nD × Option J => iprop(∃ κ : ℕ, cellInv ER (sched m) κ (kcell cj))),
    bigSep_congr (s := Finset.univ) (fun (c : Dev nD) _ => bigSep_sep' Finset.univ (fun j : Option J => (at0 c j : sProp 𝕄)) (fun j => reached ER (kcell (c, j)) 0)),
    bigSep_sep', ← bigSep_univ_prod (fun cj : Dev nD × Option J => (reached ER (kcell cj) 0 : sProp 𝕄)), toks_around]
  iintro ⟨HI, ⟨Hat, #HR⟩, Htok⟩
  ihave HK := (BI.bigSep_exists_pi Finset.univ (fun (cj : Dev nD × Option J) (κ : ℕ) => (cellInv ER (sched m) κ (kcell cj) : sProp 𝕄))) $$ HI
  icases HK with ⟨%K, #HI⟩
  iapply (with_persistent (R := recs m K) fun c _ => ghost_intro m K c)
  isplitr
  · unfold recs; isplitl; · iexact HI
    iexact HR
  · iapply linear_intro
    isplitl [Hat] <;> iassumption

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The weight arrays -/

theorem wArr_eq (c : Dev nD) (l : Fin 3) : wArr m l c
    = ((winA l).view.loc (c : Thread nD τ) ↦{fullShare} m ((winA l).view.loc (c : Thread nD τ)) : sProp 𝕄) := by
  have hw : (winA l).view.set = Finset.univ := by fin_cases l <;> exact View.set_whole _
  unfold wArr
  rw [hw]
theorem uArr_eq (c : Dev nD) (l : Fin 3) : uArr m l c
    = ((woutA l).view.loc (c : Thread nD τ) ↦{fullShare} m ((woutA l).view.loc (c : Thread nD τ)) : sProp 𝕄) := by
  have hw : (woutA l).view.set = Finset.univ := by fin_cases l <;> exact View.set_whole _
  unfold uArr
  rw [hw]

/-- The six weight arrays as the launch hands them over are the layers' arrays. -/
theorem arrays_intro (c : Dev nD) :
    Pipeline.unscopedRest (Ix := Unit) (Name := ℕ) (U := UU) (Lvl := ℕ) cfg0.spec c (fun b => m ((c : Thread nD τ).loc b))
      ⊢ bigSep Finset.univ fun l : Fin 3 => iprop(wArr m l c ∗ uArr m l c) := by
  rw [unscopedRest0_eq, lay3, wArr_eq, wArr_eq, wArr_eq, uArr_eq, uArr_eq, uArr_eq]
  iintro ⟨H1, H2, H3, H4, H5, H6⟩
  isplitl [H1 H4]
  · isplitl [H1]; · iexact H1
    iexact H4
  isplitl [H2 H5]
  · isplitl [H2]; · iexact H2
    iexact H5
  isplitl [H3]; · iexact H3
  iexact H6

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owedL (evAll d)) c ∗ prngReg c (ρ c) ∗ G' m c)
      ⊢ |={Set.univ}=> iprop(start m c ∗ emp) := by
  rw [Pipeline.unscopedRestP_none]
  unfold G' recs linear payToks
  iintro ⟨Hrest, Hlev, Hcr, -, ⟨%K, ⟨HI, HR⟩, ⟨Hb, Ha⟩, Hbt, Ht⟩⟩
  ihave Hc := (creds (F := F) c) $$ Hcr
  icases Hc with ⟨H7, HN⟩
  ihave Harr := (arrays_intro m c) $$ Hrest
  ihave HT := (layTok_all c) $$ [Ha Ht HN]
  · isplitl [Ha]; · iexact Ha
    isplitl [Ht] <;> iassumption
  icases HT with ⟨Hwt, Hlt⟩
  imodintro
  isplitl
  · unfold start
    iexists K
    isplitl [HI HR Hlev]
    · unfold records
      isplitl [HI]; · iexact HI
      isplitl [HR] <;> iassumption
    isplitl [H7 Hb]
    · isplitl [H7] <;> iassumption
    isplitl [Hbt]; · iexact Hbt
    isplitl [Harr]; · iexact Harr
    isplitl [Hwt] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start bodyIn anyAt
  iintro ⟨⟨%K, HR, Hb, Hbt, Harr, Hwt, Hlt⟩, -, H0, H1, H2, H3, H4⟩
  iexists K
  isplitl [HR]; · iexact HR
  isplitl [Hb]; · iexact Hb
  isplitl [Hbt]; · iexact Hbt
  isplitl [Harr]; · iexact Harr
  isplitl [Hwt]; · iexact Hwt
  isplitl [Hlt]; · iexact Hlt
  isplitl [H0]; · iexact H0
  isplitl [H1]; · iexact H1
  isplitl [H2]; · iexact H2
  isplitl [H3] <;> iassumption

/-- A layer's leavings sorted: its arrays, its closed cells, its parts of the scratch buffers. -/
theorem layOut_sort (c : Dev nD) (l : Fin 3) : layOut m c l ⊢
    iprop((wArr m l c ∗ uArr m l c)
      ∗ ((done c (some (.inl (l, 0))) ∗ done c (some (.inl (l, 1)))) ∗ (bigSepL hops fun k => done c (some (.inr (0, l, k))))
        ∗ (bigSepL hops fun k => done c (some (.inr (1, l, k)))) ∗ (bigSepL hops fun k => done c (some (.inr (2, l, k))))
        ∗ (bigSepL hops fun k => done c (some (.inr (3, l, k)))))
      ∗ anyAt ((c : Thread nD τ).loc cc0_scratch0) (winSt l) ∗ anyAt ((c : Thread nD τ).loc cc0_scratch1) (woutSt l)
      ∗ anyAt ((c : Thread nD τ).loc cc0_scratch2) (layS l)
      ∗ (bigSep Finset.univ fun k : Fin 7 => anyAt ((c : Thread nD τ).loc cc0_scratch3) (commS (l, k)))
      ∗ anyAt ((c : Thread nD τ).loc cc0_scratch4) (layS l)) := by
  unfold layOut
  rw [hop_eq fun k : Fin 7 => anyAt ((c : Thread nD τ).loc cc0_scratch3) (commS (l, k))]
  iintro ⟨Hd, ⟨H0, Hw⟩, ⟨H1, Hu⟩, H2, H4, HA, HB, HC⟩
  ihave HA := (hop_unzip (fun k => done c (some (.inr (1, l, k)))) (fun k => anyAt ((c : Thread nD τ).loc cc0_scratch3) (commS (l, k)))) $$ HA
  icases HA with ⟨HA, H3⟩
  ihave HC := (hop_unzip (fun k => done c (some (.inr (0, l, k)))) (fun k => done c (some (.inr (2, l, k))))) $$ HC
  icases HC with ⟨HC, HD⟩
  isplitl [Hw Hu]
  · isplitl [Hw] <;> iassumption
  isplitl [Hd HA HB HC HD]
  · isplitl [Hd]; · iexact Hd
    isplitl [HC]; · iexact HC
    isplitl [HA]; · iexact HA
    isplitl [HD] <;> iassumption
  isplitl [H0]; · iexact H0
  isplitl [H1]; · iexact H1
  isplitl [H2]; · iexact H2
  isplitl [H3] <;> iassumption

/-- The same of all layers. -/
theorem layOut_all (c : Dev nD) : (bigSep Finset.univ fun l : Fin 3 => layOut m c l) ⊢
    iprop((bigSep Finset.univ fun l : Fin 3 => iprop(wArr m l c ∗ uArr m l c)) ∗ (bigSep Finset.univ fun j : J => done c (some j))
      ∗ (bigSep Finset.univ fun l : Fin 3 => anyAt ((c : Thread nD τ).loc cc0_scratch0) (winSt l))
      ∗ (bigSep Finset.univ fun l : Fin 3 => anyAt ((c : Thread nD τ).loc cc0_scratch1) (woutSt l))
      ∗ (bigSep Finset.univ fun l : Fin 3 => anyAt ((c : Thread nD τ).loc cc0_scratch2) (layS l))
      ∗ (bigSep Finset.univ fun lk : Fin 3 × Fin 7 => anyAt ((c : Thread nD τ).loc cc0_scratch3) (commS lk))
      ∗ (bigSep Finset.univ fun l : Fin 3 => anyAt ((c : Thread nD τ).loc cc0_scratch4) (layS l))) := by
  rw [cells_eq fun j : J => done c (some j), bigSep_univ_prod (fun lk : Fin 3 × Fin 7 => anyAt ((c : Thread nD τ).loc cc0_scratch3) (commS lk)),
    ← bigSep_sep', ← bigSep_sep', ← bigSep_sep', ← bigSep_sep', ← bigSep_sep', ← bigSep_sep']
  exact bigSep_mono fun l _ => layOut_sort m c l

/-- What is read off a device's state at the end beside its windows: its barrier closed, and its weight arrays. -/
def Y (c : Dev nD) : sProp 𝕄 := iprop(unscopedSems0 c ∗ bigSep Finset.univ fun l : Fin 3 => iprop(wArr m l c ∗ uArr m l c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = bodyOut m c from rfl, scopedRest0_eq, ownSems0_eq]
  unfold Y bodyOut
  rw [unscopedSems0_eq]
  show _ ⊢ iprop(_ ∗ _ ∗ anyAt ((c : Thread nD τ).loc cc0_scratch0) Finset.univ ∗ anyAt ((c : Thread nD τ).loc cc0_scratch1) Finset.univ
    ∗ anyAt ((c : Thread nD τ).loc cc0_scratch2) Finset.univ ∗ anyAt ((c : Thread nD τ).loc cc0_scratch3) Finset.univ
    ∗ anyAt ((c : Thread nD τ).loc cc0_scratch4) Finset.univ)
  iintro ⟨Hb, HL⟩
  ihave HL := (layOut_all m c) $$ HL
  icases HL with ⟨Harr, Hd, H0, H1, H2, H3, H4⟩
  isplitl [Hb Harr]
  · isplitl [Hb] <;> iassumption
  isplitl [Hd]; · iexact Hd
  isplitl [H0]; · iapply (win_join c) $$ H0
  isplitl [H1]; · iapply (wout_join c) $$ H1
  isplitl [H2]; · iapply (send_join_any c) $$ H2
  isplitl [H3]; · iapply (slots_join c) $$ H3
  iapply (xb_join_any c) $$ H4

/-- The pipeline's own cells are below everything a device owes. -/
theorem mayWait_stage (c : Dev nD) (s : DmaSem sig) (hs : s.val < 2) (O : CellTallies nD τ sig Unit) (h : O = owedL (evAll c) ∨ O = 0) :
    (levAts L lv : sProp 𝕄) ⊢ MayWait (c : Thread nD τ) (.dma s) () O := by
  have hl : lv ((c : Thread nD τ), .dma s) () ≤ 0 := by
    show (match idx (.dma s) with | some j => lvJ j | none => 0) ≤ 0
    rw [idx_stage s hs]
  rcases h with rfl | rfl
  · refine mayWait_of c (.dma s) 0 hl (evAll c) (Above.append ?_ (above_rest c 0 layers fun _ _ => Nat.zero_le _))
    intro e he
    obtain ⟨k, -, rfl⟩ := List.mem_map.mp he
    exact Nat.zero_lt_one
  · exact mayWait_of c (.dma s) 0 hl [] (Above.nil 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The weight arrays hold what they held. -/
def kept (c : Dev nD) (s : MemSt nD τ sig (Elt F)) : Prop := ∀ l : Fin 3,
  s.mem ((winA l).view.loc (c : Thread nD τ)) = m ((winA l).view.loc (c : Thread nD τ))
    ∧ s.mem ((woutA l).view.loc (c : Thread nD τ)) = m ((woutA l).view.loc (c : Thread nD τ))

def QC : PUnit × MemSt nD τ sig (Elt F) → Prop := fun r =>
  ∀ c : Dev nD, (∀ w : Fin cfg0.W, r.2.mem ((cfg0.win w).arr.view.loc (c : Thread nD τ)) = finalA m ρ c w) ∧ kept m c r.2

theorem arrays_full (c : Dev nD) : (bigSep Finset.univ fun l : Fin 3 => iprop(wArr m l c ∗ uArr m l c)) ⊢
    iprop((bigSep Finset.univ fun l : Fin 3 => (winA l).view.loc (c : Thread nD τ) ↦{fullShare} m ((winA l).view.loc (c : Thread nD τ)))
      ∗ bigSep Finset.univ fun l : Fin 3 => (woutA l).view.loc (c : Thread nD τ) ↦{fullShare} m ((woutA l).view.loc (c : Thread nD τ))) := by
  rw [bigSep_sep']
  exact Entails.of_eq (congrArg₂ (fun A B : sProp 𝕄 => iprop(A ∗ B)) (bigSep_congr fun l _ => wArr_eq m c l) (bigSep_congr fun l _ => uArr_eq m c l))

theorem arrays_read (c : Dev nD) (s : Phys nD τ sig (Elt F)) :
    iprop((bigSep Finset.univ fun l : Fin 3 => iprop(wArr m l c ∗ uArr m l c)) ∗ SI s) ⊢ (iprop(⌜kept m c s.mem⌝ ∗ SI s) : sProp 𝕄) := by
  iintro ⟨H, HSI⟩
  ihave H := (arrays_full m c) $$ H
  icases H with ⟨Hw, Hu⟩
  ihave H := (pointsTo_read_all (Finset.univ : Finset (Fin 3)) (fun l => (winA l).view.loc (c : Thread nD τ)) (fun l => m ((winA l).view.loc (c : Thread nD τ))) s fullShare) $$ [Hw HSI]
  · isplitl [Hw] <;> iassumption
  icases H with ⟨%hw, HSI⟩
  ihave H := (pointsTo_read_all (Finset.univ : Finset (Fin 3)) (fun l => (woutA l).view.loc (c : Thread nD τ)) (fun l => m ((woutA l).view.loc (c : Thread nD τ))) s fullShare) $$ [Hu HSI]
  · isplitl [Hu] <;> iassumption
  icases H with ⟨%hu, HSI⟩
  isplitr
  · ipureintro; exact fun l => ⟨hw l (Finset.mem_univ _), hu l (Finset.mem_univ _)⟩
  iexact HSI

theorem Y_read (c : Dev nD) (s : Phys nD τ sig (Elt F)) :
    iprop(Y m c ∗ emp ∗ SI s) ⊢ (iprop(|={Set.univ}=> iprop(⌜kept m c s.mem ∧ ∀ sm : SemLoc sig, sm.isScoped .tc = false → s.mem.sem ((c.tc : Thread nD τ), sm) = 0⌝ ∗ SI s)) : sProp 𝕄) := by
  unfold Y
  iintro ⟨⟨Hu, Ha⟩, -, HSI⟩
  ihave H := (arrays_read m c s) $$ [Ha HSI]
  · isplitl [Ha] <;> iassumption
  icases H with ⟨%hk, HSI⟩
  imod (Pipeline.unscopedSems0_read (X := unscopedSems0 c) (c := c) fupd_intro s) $$ [Hu HSI] with ⟨%hs, HSI⟩
  · isplitl [Hu] <;> iassumption
  imodintro
  isplitr
  · ipureintro; exact ⟨hk, hs⟩
  iexact HSI

set_option maxRecDepth 16000 in
/-- For any float values and from any memory with zero counters, every fair run of the program on the eight devices ends,
    with every window's array at its computed contents, the weights as they were and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL (evAll d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => kept m c s ∧ ∀ sm : SemLoc sig, sm.isScoped .tc = false → s.sem ((c.tc : Thread nD τ), sm) = 0)
    (hY := fun c s' => Y_read m c s')
    (hQ := fun _ h hs => ⟨fun c => ⟨(h c).1, (h c).2.2.1⟩, sem_eq_zero hs fun c => (h c).2.2.2⟩)

/-- The array of the activations holds what it held. -/
theorem finalA_x (c : Dev nD) : finalA m ρ c (0 : Fin 2) = m ((c : Thread nD τ).loc main_arg0) :=
  (dats (F := F) m ρ 0 c).arrAt_in (0 : Fin 2) rfl _

end Cert.AllToAllMlp

end
-- ==== Proof.Value.lean ====
/-
What the program computes, at the extended reals: the sum of the devices' partial results is the product with the whole
weights, so what the last layer leaves is the reference's value.
-/
module

public import proofs.«01_k».proof.Proof.Run
public import proofs.«01_k».proof.Proof.Gen.ReferenceIdeal
public import proofs.«01_k».proof.ReferenceIdeal
public import Idealize.ShloMosaic.Lib.Layout
public import Idealize.ShloMosaic.Lib.MatmulPlain
public import Idealize.ShloMosaic.Lib.StackMember
public import Idealize.ShloMosaic.Lib.KernelVsHost
public import Idealize.ShloMosaic.Lib.ValueIdxCore
public import Idealize.ShloMosaic.PureOps.Ideal

@[expose] public section

set_option maxRecDepth 16384

noncomputable section

namespace Cert.AllToAllMlp

open Cert.KernelIdeal Cert.KernelIdeal.Gen
open Idealize.ShloMosaic Idealize.ShloMosaic.ValueIdx Idealize.ShloMosaic.StackMember
open Idealize.ShloMosaic.TcCoe
open Idealize.SL Idealize.SL.Sem
open scoped BigOperators

/-! ## The sum over the devices -/

/-- Adding arrays one after the other adds their entries. -/
theorem foldl_addf_apply {κ : Type} {s : Shape} (Q : κ → FVec Ideal s .f32) (i : s.Idx) : ∀ (l : List κ) (b : FVec Ideal s .f32),
    l.foldl (fun a k => addf a (Q k)) b i = b i + (l.map fun k => Q k i).sum
  | [], b => (add_zero (b i)).symm
  | k :: l, b => by
    rw [List.foldl_cons, foldl_addf_apply Q i l, List.map_cons, List.sum_cons]
    exact add_assoc (b i) (Q k i) _

/-- A sum over all devices is device `c`'s term and those of the devices before it, hop by hop. -/
theorem sum_back {α : Type} [AddCommMonoid α] (c : Dev nD) (f : Dev nD → α) : ∑ d, f d = f c + (hops.map fun k => f (back c k)).sum := by
  rw [univ_back c, Finset.sum_insert (not_mem_back c), Finset.sum_map, Fin.sum_univ_def]
  rfl

/-- The chunk a device adds up is its rows of the sum over all devices. -/
theorem sumAt_apply (P : Dev nD → FVec Ideal S64x512 .f32) (j : Dev nD) (i : S8x512.Idx) :
    sumAt P j i = ∑ d, rowsAt (P d) j i :=
  (foldl_addf_apply (fun k => rowsAt (P (back j k)) j) i hops _).trans (sum_back j fun d => rowsAt (P d) j i).symm

/-- A row of a chunk, at the chunk's place, is the row of the array. -/
theorem stack_rowsAt {α : Type} (P : S64x512.Idx → α) : stack (rowsAt P) = P := by
  funext i
  unfold stack rowsAt
  refine congrArg P ((congrArg₂ (Shape.pair (d := ![64, 512])) (Fin.ext ?_) rfl).trans (Shape.pair_eta i))
  show 8 * ((i 0).val / 8) + (i 0).val % 8 = (i 0).val
  exact Nat.div_add_mod _ 8

/-- The chunks together are the sum over all devices. -/
theorem stack_sumAt (P : Dev nD → FVec Ideal S64x512 .f32) (i : S64x512.Idx) : stack (sumAt P) i = ∑ d, P d i := by
  unfold stack
  rw [sumAt_apply]
  exact Finset.sum_congr rfl fun d _ => congrFun (stack_rowsAt (P d)) i

/-! ## One layer -/

/-- A partial result, entry by entry. -/
theorem core_apply (x : FVec Ideal S64x512 .f32) (w : FVec Ideal S512x1024 .f32) (u : FVec Ideal S1024x512 .f32)
    (r : Fin 64) (n : Fin 512) :
    core x w u (ix2 r n) = ∑ k : Fin 1024, max (∑ q : Fin 512, x (ix2 r q) * w (ix2 q k)) 0 * u (ix2 k n) := by
  unfold core
  rw [matmul_zero_eq_dotGeneral, matmul_zero_eq_dotGeneral]
  refine (dotGeneral_plain_apply (m := 64) (k := 1024) (n := 512) none _ u r n).trans (Finset.sum_congr rfl fun k _ => ?_)
  refine congrArg (· * u (ix2 k n)) (congrArg₂ max (dotGeneral_plain_apply (m := 64) (k := 512) (n := 1024) none x w r k) ?_)
  exact Ideal.ofBits_zero_f32

/-- The reference's layer: the product of the activations and the whole first weights, negative entries cleared, times the
    whole second weights. -/
def whole (x : FVec Ideal S64x512 .f32) (W : FVec Ideal Cert.ReferenceIdeal.S512x8192 .f32)
    (U : FVec Ideal Cert.ReferenceIdeal.S8192x512 .f32) : FVec Ideal S64x512 .f32 :=
  Host.dotGeneral Cert.ReferenceIdeal.dot_S64x8192_S8192x512_S64x512_1_0_0_1_n_n none
    (maximumf (Host.dotGeneral Cert.ReferenceIdeal.dot_S64x512_S512x8192_S64x8192_1_0_0_1_n_n none x W)
      (broadcastInDim Cert.ReferenceIdeal.S64x8192 ![] Cert.ReferenceIdeal.Gen.bcast_S_S64x8192
        (constant Cert.ReferenceIdeal.S_ .f32 0x00000000#32))) U

/-- The reference's layer, entry by entry. -/
theorem whole_apply (x : FVec Ideal S64x512 .f32) (W : FVec Ideal Cert.ReferenceIdeal.S512x8192 .f32)
    (U : FVec Ideal Cert.ReferenceIdeal.S8192x512 .f32) (r : Fin 64) (n : Fin 512) :
    whole x W U (ix2 r n) = ∑ k : Fin 8192, max (∑ q : Fin 512, x (ix2 r q) * W (ix2 q k)) 0 * U (ix2 k n) := by
  unfold whole
  refine (dotGeneral_plain_apply (m := 64) (k := 8192) (n := 512) none _ U r n).trans (Finset.sum_congr rfl fun k _ => ?_)
  refine congrArg (· * U (ix2 k n)) (congrArg₂ max (dotGeneral_plain_apply (m := 64) (k := 512) (n := 8192) none x W r k) ?_)
  exact Ideal.ofBits_zero_f32

/-- Hidden unit `k` of device `d` is hidden unit `1024 d + k` of the whole layer. -/
def unit (d : Fin 8) (k : Fin 1024) : Fin 8192 := ⟨d.val * 1024 + k.val, by omega⟩

/-- A sum over the hidden units is the sum over the devices of the sums over a device's hidden units. -/
theorem sum_unit {α : Type} [AddCommMonoid α] (f : Fin 8192 → α) : ∑ K, f K = ∑ d : Fin 8, ∑ k : Fin 1024, f (unit d k) := by
  rw [← Equiv.sum_comp (finProdFinEquiv (m := 8) (n := 1024)) f, Fintype.sum_prod_type]
  refine Finset.sum_congr rfl fun d _ => Finset.sum_congr rfl fun k _ => congrArg f (Fin.ext ?_)
  show k.val + 1024 * d.val = d.val * 1024 + k.val
  omega

/-- One layer of the program, its weights cut over the devices, is the reference's layer. -/
theorem layer_eq (x : FVec Ideal S64x512 .f32) (W : FVec Ideal Cert.ReferenceIdeal.S512x8192 .f32)
    (U : FVec Ideal Cert.ReferenceIdeal.S8192x512 .f32) :
    (stack (sumAt fun c : Dev nD => core x (Layout.block ⟨2, ![512, 1024]⟩ ⟨2, ![512, 8192]⟩ 1 8 c W)
      (Layout.block ⟨2, ![1024, 512]⟩ ⟨2, ![8192, 512]⟩ 0 8 c U)) : FVec Ideal S64x512 .f32) = whole x W U := by
  funext i
  obtain ⟨r, n, rfl⟩ : ∃ (r : Fin 64) (n : Fin 512), i = ix2 r n := ⟨i 0, i 1, eq_ix2 i⟩
  rw [stack_sumAt, whole_apply, sum_unit]
  refine Finset.sum_congr rfl fun d _ => (core_apply _ _ _ r n).trans (Finset.sum_congr rfl fun k _ => ?_)
  refine congrArg₂ (· * ·) (congrArg (max · 0) (Finset.sum_congr rfl fun q _ => congrArg (x (ix2 r q) * ·) (congrArg W ?_))) (congrArg U ?_)
  · funext a; match a with | ⟨0, _⟩ => rfl | ⟨1, _⟩ => rfl
  · funext a; match a with | ⟨0, _⟩ => rfl | ⟨1, _⟩ => rfl

/-! ## The result -/

variable (m : (ℓ : Loc nD τ sig) → Buf (Elt Ideal) ℓ) (ρ : Dev nD → PrngReg)

/-- The activations staged at launch are the contents of the argument. -/
theorem xAt_eq (c : Dev nD) : xAt m c = m ((c : Thread nD τ).loc main_arg0) :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _

/-- What the last layer leaves is in the result array. -/
theorem finalA_o (c : Dev nD) : finalA m ρ c (1 : Fin 2) = res m 2 := by
  have h : (win0_1.blk (0 : Fin 1)).view.read (Elt Ideal) (finalA m ρ c (1 : Fin 2)) = res m 2 := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt Ideal) main_v1
    (show (fun a => (win0_1.index (0 : Fin 1)) a * main_v1.ty.shape.size a) = fun _ => 0 from funext fun a => by fin_cases a <;> decide)
    (fun a => by fin_cases a <;> decide) _).symm.trans h

/-- A layer of the program from equal activations on all devices and weights cut over the devices. -/
theorem step_eq (l : Fin 3) (x : FVec Ideal S64x512 .f32) (W : FVec Ideal Cert.ReferenceIdeal.S512x8192 .f32)
    (U : FVec Ideal Cert.ReferenceIdeal.S8192x512 .f32)
    (hW : ∀ c, wAt m l c = Layout.block ⟨2, ![512, 1024]⟩ ⟨2, ![512, 8192]⟩ 1 8 c W)
    (hU : ∀ c, uAt m l c = Layout.block ⟨2, ![1024, 512]⟩ ⟨2, ![8192, 512]⟩ 0 8 c U) :
    step m l (fun _ => x) = whole x W U := by
  rw [← layer_eq]
  unfold step
  simp only [hW, hU]

/-- What the last layer leaves, from a common `x` and weights cut over the devices, is the reference's value. -/
theorem res_eq (x : FVec Ideal S64x512 .f32) (W : Fin 3 → FVec Ideal Cert.ReferenceIdeal.S512x8192 .f32)
    (U : Fin 3 → FVec Ideal Cert.ReferenceIdeal.S8192x512 .f32) (hx : ∀ c, xAt m c = x)
    (hW : ∀ l c, wAt m l c = Layout.block ⟨2, ![512, 1024]⟩ ⟨2, ![512, 8192]⟩ 1 8 c (W l))
    (hU : ∀ l c, uAt m l c = Layout.block ⟨2, ![1024, 512]⟩ ⟨2, ![8192, 512]⟩ 0 8 c (U l)) :
    res m 2 = whole (whole (whole x (W 0) (U 0)) (W 1) (U 1)) (W 2) (U 2) := by
  have h (l : Fin 3) (y) := step_eq m l y (W l) (U l) (hW l) (hU l)
  show step m 2 (fun _ => step m 1 fun _ => step m 0 (xAt m)) = _
  rw [show xAt m = fun _ => x from funext hx, h, h, h]

end Cert.AllToAllMlp

end
-- ==== Proof.lean ====
/-
The claims, each from the run it is about.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run

@[expose] public section

set_option maxRecDepth 65536

noncomputable section

namespace Cert.Proof

open Idealize.ShloMosaic Idealize.ShloMosaic.TcCoe Idealize.SL Idealize.SL.Sem
open Cert.AllToAllMlp

/-- After the run every argument holds what it held at launch, on every device. -/
theorem args_kept {F : FTy → Type} [FloatOps F] (m : (ℓ : Loc KernelIdeal.nD KernelIdeal.τ KernelIdeal.sig) → Buf (Elt F) ℓ)
    (ρ : Dev KernelIdeal.nD → PrngReg) (r : PUnit × MemSt KernelIdeal.nD KernelIdeal.τ KernelIdeal.sig (Elt F)) (h : QC m ρ r)
    (c : Dev KernelIdeal.nD) :
    r.2.mem ((c : Thread KernelIdeal.nD KernelIdeal.τ).loc KernelIdeal.main_arg0) = m ((c : Thread KernelIdeal.nD KernelIdeal.τ).loc KernelIdeal.main_arg0)
    ∧ r.2.mem ((c : Thread KernelIdeal.nD KernelIdeal.τ).loc KernelIdeal.main_arg1) = m ((c : Thread KernelIdeal.nD KernelIdeal.τ).loc KernelIdeal.main_arg1)
    ∧ r.2.mem ((c : Thread KernelIdeal.nD KernelIdeal.τ).loc KernelIdeal.main_arg2) = m ((c : Thread KernelIdeal.nD KernelIdeal.τ).loc KernelIdeal.main_arg2)
    ∧ r.2.mem ((c : Thread KernelIdeal.nD KernelIdeal.τ).loc KernelIdeal.main_arg3) = m ((c : Thread KernelIdeal.nD KernelIdeal.τ).loc KernelIdeal.main_arg3)
    ∧ r.2.mem ((c : Thread KernelIdeal.nD KernelIdeal.τ).loc KernelIdeal.main_arg4) = m ((c : Thread KernelIdeal.nD KernelIdeal.τ).loc KernelIdeal.main_arg4)
    ∧ r.2.mem ((c : Thread KernelIdeal.nD KernelIdeal.τ).loc KernelIdeal.main_arg5) = m ((c : Thread KernelIdeal.nD KernelIdeal.τ).loc KernelIdeal.main_arg5)
    ∧ r.2.mem ((c : Thread KernelIdeal.nD KernelIdeal.τ).loc KernelIdeal.main_arg6) = m ((c : Thread KernelIdeal.nD KernelIdeal.τ).loc KernelIdeal.main_arg6) :=
  ⟨((h c).1 (0 : Fin 2)).trans (finalA_x m ρ c), ((h c).2 0).1, ((h c).2 1).1, ((h c).2 2).1, ((h c).2 0).2, ((h c).2 1).2, ((h c).2 2).2⟩

/-- The two programs' body tables are one. -/
theorem bodies_eq : Kernel.defs₀ (F := Bits) = KernelIdeal.defs₀ (F := Bits) := by
  unfold Kernel.defs₀ KernelIdeal.defs₀
  refine congrArg Defs.onTc ?_
  funext l p
  fin_cases l
  rfl

/-- So are their tables with the launches' pipelines. -/
theorem defs_eq : Kernel.defs (F := Bits) = KernelIdeal.defs (F := Bits) :=
  congrArg (Pipeline.defs (KernelIdeal.pcfgs (F := Bits))) bodies_eq

/-- The program as printed ends, its arguments unchanged and every counter at zero: it is the idealized program's text. -/
theorem frame_kernel : Cert.quiescent_Kernel := fun m ρ _ => by
  refine (congrArg (fun D => θ_run D (onTc (τ := Kernel.τ) (Kernel.main (F := Bits))) ⟨m, fun _ => 0, ρ⟩ _) defs_eq).mpr ?_
  exact (θ_run KernelIdeal.defs _ _).mono (fun r h => ⟨args_kept m ρ r h.1, h.2⟩) (run_main (F := Bits) m ρ)

/-- The idealized program ends, its arguments unchanged and every counter at zero. -/
theorem frame_kernelIdeal : Cert.quiescent_KernelIdeal := fun m ρ _ =>
  (θ_run KernelIdeal.defs _ _).mono (fun r h => ⟨args_kept m ρ r h.1, h.2⟩) (run_main (F := Ideal) m ρ)

/-- The reference ends, its arguments unchanged and every counter at zero. -/
theorem frame_referenceIdeal : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The whole weights the reference holds of a layer: the first, and the second. -/
def firsts (m : (ℓ : Loc ReferenceIdeal.nD ReferenceIdeal.τ ReferenceIdeal.sig) → Buf (Elt Ideal) ℓ) :
    Fin 3 → FVec Ideal ReferenceIdeal.S512x8192 .f32
  | 0 => m (((0 : Dev ReferenceIdeal.nD) : Thread ReferenceIdeal.nD ReferenceIdeal.τ).loc ReferenceIdeal.main_arg1)
  | 1 => m (((0 : Dev ReferenceIdeal.nD) : Thread ReferenceIdeal.nD ReferenceIdeal.τ).loc ReferenceIdeal.main_arg2)
  | 2 => m (((0 : Dev ReferenceIdeal.nD) : Thread ReferenceIdeal.nD ReferenceIdeal.τ).loc ReferenceIdeal.main_arg3)
def seconds (m : (ℓ : Loc ReferenceIdeal.nD ReferenceIdeal.τ ReferenceIdeal.sig) → Buf (Elt Ideal) ℓ) :
    Fin 3 → FVec Ideal ReferenceIdeal.S8192x512 .f32
  | 0 => m (((0 : Dev ReferenceIdeal.nD) : Thread ReferenceIdeal.nD ReferenceIdeal.τ).loc ReferenceIdeal.main_arg4)
  | 1 => m (((0 : Dev ReferenceIdeal.nD) : Thread ReferenceIdeal.nD ReferenceIdeal.τ).loc ReferenceIdeal.main_arg5)
  | 2 => m (((0 : Dev ReferenceIdeal.nD) : Thread ReferenceIdeal.nD ReferenceIdeal.τ).loc ReferenceIdeal.main_arg6)

/-- From arguments placed as the claim places them, every device's result is the reference's. -/
theorem algebraic : Cert.algebraic_KernelIdeal_ReferenceIdeal := fun m ρ m' ρ' _ hagree => by
  have hx c : xAt m c = _ := (xAt_eq m c).trans (hagree c).1
  have hW (l : Fin 3) c : wAt m l c = Layout.block ⟨2, ![512, 1024]⟩ ⟨2, ![512, 8192]⟩ 1 8 c (firsts m' l) := by
    obtain ⟨-, h1, h2, h3, -⟩ := hagree c
    match l with
    | 0 => exact (View.read_whole _ _).trans h1
    | 1 => exact (View.read_whole _ _).trans h2
    | 2 => exact (View.read_whole _ _).trans h3
  have hU (l : Fin 3) c : uAt m l c = Layout.block ⟨2, ![1024, 512]⟩ ⟨2, ![8192, 512]⟩ 0 8 c (seconds m' l) := by
    obtain ⟨-, -, -, -, h4, h5, h6⟩ := hagree c
    match l with
    | 0 => exact (View.read_whole _ _).trans h4
    | 1 => exact (View.read_whole _ _).trans h5
    | 2 => exact (View.read_whole _ _).trans h6
  refine ⟨_, ?_, (θ_run ReferenceIdeal.defs _ _).mono (fun _ h => h 0) (ReferenceIdeal.Value.run (F := Ideal) m' ρ')⟩
  exact (θ_run KernelIdeal.defs _ _).mono
    (fun r h c => ⟨(((h.1 c).1 (1 : Fin 2)).trans (finalA_o m ρ c)).trans (res_eq m _ (firsts m') (seconds m') hx hW hU), args_kept m ρ r h.1 c⟩)
    (run_main (F := Ideal) m ρ)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
